-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S1 : Shape := ⟨1, ![1]⟩
abbrev S4096x256 : Shape := ⟨2, ![4096, 256]⟩
abbrev S2x4096x256 : Shape := ⟨3, ![2, 4096, 256]⟩
abbrev S8x512x256 : Shape := ⟨3, ![8, 512, 256]⟩
abbrev S2 : Shape := ⟨1, ![2]⟩
abbrev S8 : Shape := ⟨1, ![8]⟩
abbrev S_ : Shape := ⟨0, ![]⟩
abbrev S1x4096x256 : Shape := ⟨3, ![1, 4096, 256]⟩
abbrev S512x256 : Shape := ⟨2, ![512, 256]⟩
abbrev S1x512x256 : Shape := ⟨3, ![1, 512, 256]⟩

abbrev nBuf : Space → Nat
  | .hbm => 5
  | .vmem => 5
  | .smem => 2
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .f32⟩
  | .local _ .vmem, ⟨1, _⟩ => ⟨S4096x256, .f32⟩
  | .local _ .vmem, ⟨2, _⟩ => ⟨S2x4096x256, .f32⟩
  | .local _ .vmem, ⟨3, _⟩ => ⟨S8x512x256, .bf16⟩
  | .local _ .vmem, ⟨4, _⟩ => ⟨S8x512x256, .bf16⟩
  | .local _ .smem, ⟨0, _⟩ => ⟨S1, .f32⟩
  | .local _ .smem, ⟨1, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 32 := Scalar.addi v2 c1_i32_1
  let c8_i32_2 : BitVec 32 := 8#32
  let v8 : BitVec 32 := Scalar.remsi v7 c8_i32_2
  let c1_i32_4 : BitVec 32 := 1#32
  let v9 : BitVec 32 := Scalar.muli v8 c1_i32_4
  let v10 : BitVec 32 := Scalar.addi c0_i32 v9
  v10.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.addi v2 c2_i32
  let c8_i32_5 : BitVec 32 := 8#32
  let v12 : BitVec 32 := Scalar.remsi v11 c8_i32_5
  let c1_i32_7 : BitVec 32 := 1#32
  let v13 : BitVec 32 := Scalar.muli v12 c1_i32_7
  let v14 : BitVec 32 := Scalar.addi c0_i32_8 v13
  v14.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.addi v2 c3_i32
  let c8_i32_9 : BitVec 32 := 8#32
  let v16 : BitVec 32 := Scalar.remsi v15 c8_i32_9
  let c1_i32_11 : BitVec 32 := 1#32
  let v17 : BitVec 32 := Scalar.muli v16 c1_i32_11
  let v18 : BitVec 32 := Scalar.addi c0_i32_12 v17
  v18.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v19 : BitVec 32 := Scalar.addi v2 c4_i32
  let c8_i32_13 : BitVec 32 := 8#32
  let v20 : BitVec 32 := Scalar.remsi v19 c8_i32_13
  let c1_i32_15 : BitVec 32 := 1#32
  let v21 : BitVec 32 := Scalar.muli v20 c1_i32_15
  let v22 : BitVec 32 := Scalar.addi c0_i32_16 v21
  v22.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v23 : BitVec 32 := Scalar.addi v2 c5_i32
  let c8_i32_17 : BitVec 32 := 8#32
  let v24 : BitVec 32 := Scalar.remsi v23 c8_i32_17
  let c1_i32_19 : BitVec 32 := 1#32
  let v25 : BitVec 32 := Scalar.muli v24 c1_i32_19
  let v26 : BitVec 32 := Scalar.addi c0_i32_20 v25
  v26.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v27 : BitVec 32 := Scalar.addi v2 c6_i32
  let c8_i32_21 : BitVec 32 := 8#32
  let v28 : BitVec 32 := Scalar.remsi v27 c8_i32_21
  let c1_i32_23 : BitVec 32 := 1#32
  let v29 : BitVec 32 := Scalar.muli v28 c1_i32_23
  let v30 : BitVec 32 := Scalar.addi c0_i32_24 v29
  v30.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v31 : BitVec 32 := Scalar.addi v2 c7_i32
  let c8_i32_25 : BitVec 32 := 8#32
  let v32 : BitVec 32 := Scalar.remsi v31 c8_i32_25
  let c1_i32_27 : BitVec 32 := 1#32
  let v33 : BitVec 32 := Scalar.muli v32 c1_i32_27
  let v34 : BitVec 32 := Scalar.addi c0_i32_28 v33
  v34.toNat
def k0_off1 (d0 : Dev nD) (c1_i32_30 : BitVec 32) : Fin 2 → Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v35 : BitVec 32 := Scalar.addi v2 c1_i32_30
  let c8_i32_31 : BitVec 32 := 8#32
  let v36 : BitVec 32 := Scalar.remsi v35 c8_i32_31
  let c256_i32 : BitVec 32 := 256#32
  let v37 : BitVec 32 := Scalar.muli v36 c256_i32
  ![0, v37.toNat]
def k0_dev8 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_60 : BitVec 32 := 1#32
  let v72 : BitVec 32 := Scalar.addi v2 c1_i32_60
  let c8_i32_61 : BitVec 32 := 8#32
  let v73 : BitVec 32 := Scalar.remsi v72 c8_i32_61
  let c1_i32_66 : BitVec 32 := 1#32
  let v74 : BitVec 32 := Scalar.muli v73 c1_i32_66
  let v75 : BitVec 32 := Scalar.addi c0_i32_67 v74
  v75.toNat
def k0_dev9 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_94 : BitVec 32 := 2#32
  let v110 : BitVec 32 := Scalar.addi v2 c2_i32_94
  let c8_i32_95 : BitVec 32 := 8#32
  let v111 : BitVec 32 := Scalar.remsi v110 c8_i32_95
  let c1_i32_100 : BitVec 32 := 1#32
  let v112 : BitVec 32 := Scalar.muli v111 c1_i32_100
  let v113 : BitVec 32 := Scalar.addi c0_i32_101 v112
  v113.toNat
def k0_dev10 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_128 : BitVec 32 := 3#32
  let v148 : BitVec 32 := Scalar.addi v2 c3_i32_128
  let c8_i32_129 : BitVec 32 := 8#32
  let v149 : BitVec 32 := Scalar.remsi v148 c8_i32_129
  let c1_i32_134 : BitVec 32 := 1#32
  let v150 : BitVec 32 := Scalar.muli v149 c1_i32_134
  let v151 : BitVec 32 := Scalar.addi c0_i32_135 v150
  v151.toNat
def k0_dev11 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_162 : BitVec 32 := 4#32
  let v186 : BitVec 32 := Scalar.addi v2 c4_i32_162
  let c8_i32_163 : BitVec 32 := 8#32
  let v187 : BitVec 32 := Scalar.remsi v186 c8_i32_163
  let c1_i32_168 : BitVec 32 := 1#32
  let v188 : BitVec 32 := Scalar.muli v187 c1_i32_168
  let v189 : BitVec 32 := Scalar.addi c0_i32_169 v188
  v189.toNat
def k0_dev12 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_196 : BitVec 32 := 5#32
  let v224 : BitVec 32 := Scalar.addi v2 c5_i32_196
  let c8_i32_197 : BitVec 32 := 8#32
  let v225 : BitVec 32 := Scalar.remsi v224 c8_i32_197
  let c1_i32_202 : BitVec 32 := 1#32
  let v226 : BitVec 32 := Scalar.muli v225 c1_i32_202
  let v227 : BitVec 32 := Scalar.addi c0_i32_203 v226
  v227.toNat
def k0_dev13 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_230 : BitVec 32 := 6#32
  let v262 : BitVec 32 := Scalar.addi v2 c6_i32_230
  let c8_i32_231 : BitVec 32 := 8#32
  let v263 : BitVec 32 := Scalar.remsi v262 c8_i32_231
  let c1_i32_236 : BitVec 32 := 1#32
  let v264 : BitVec 32 := Scalar.muli v263 c1_i32_236
  let v265 : BitVec 32 := Scalar.addi c0_i32_237 v264
  v265.toNat
def k0_dev14 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_264 : BitVec 32 := 7#32
  let v300 : BitVec 32 := Scalar.addi v2 c7_i32_264
  let c8_i32_265 : BitVec 32 := 8#32
  let v301 : BitVec 32 := Scalar.remsi v300 c8_i32_265
  let c1_i32_270 : BitVec 32 := 1#32
  let v302 : BitVec 32 := Scalar.muli v301 c1_i32_270
  let v303 : BitVec 32 := Scalar.addi c0_i32_271 v302
  v303.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v326 : BitVec 32 := Scalar.muli v2 c512_i32
  let v327 : Index := Scalar.indexCast v326
  let c0_288 : Index := 0#32
  ![v327.toNat, 0]
def k0_off3 (d0 : Dev nD) (c1_i32_289 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v329 : BitVec 32 := Scalar.subi v2 c1_i32_289
  let c8_i32_290 : BitVec 32 := 8#32
  let v330 : BitVec 32 := Scalar.addi v329 c8_i32_290
  let c8_i32_291 : BitVec 32 := 8#32
  let v331 : BitVec 32 := Scalar.remsi v330 c8_i32_291
  let c512_i32_305 : BitVec 32 := 512#32
  let v343 : BitVec 32 := Scalar.muli v331 c512_i32_305
  let v344 : Index := Scalar.indexCast v343
  let c0_306 : Index := 0#32
  ![v344.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Program.lean ====
/- The kernel's body with its repetitions folded: one definition per kind of operation (a handshake
   signal, a fetch of a column block of `w`, a computed block and its send, an arrival, a send's
   end), each taking the offset it is for, and the body as their sequence. The printed body is this
   sequence, definitionally. -/
module

public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Exchange

open Idealize.ShloMosaic Idealize.SL.Sem Cert.KernelIdeal.Gen

/-! ### The buffers -/

/-- This device's rows of `x`, as the launch stages them. -/
abbrev bX : Memref sig .tc .vmem S512x4096 .f32 := Memref.whole cc0_stg0_0
/-- The replicated factor `w`, in main memory. -/
abbrev bW : Memref sig .tc .hbm S4096x2048 .f32 := Memref.whole main_arg1
/-- The scale of `x`. -/
abbrev bSx : Memref sig .tc .smem S1 .f32 := Memref.whole cc0_stg1_0
/-- The scale of `w`. -/
abbrev bSw : Memref sig .tc .smem S1 .f32 := Memref.whole cc0_stg2_0
/-- The result's staging buffer. -/
abbrev bO : Memref sig .tc .vmem S4096x256 .f32 := Memref.whole cc0_stg3_0
/-- Two slots for column blocks of `w`. -/
abbrev bC : Memref sig .tc .vmem S2x4096x256 .f32 := Memref.whole cc0_scratch0
/-- Eight slots of blocks to send. -/
abbrev bS : Memref sig .tc .vmem S8x512x256 .bf16 := Memref.whole cc0_scratch1
/-- Eight slots of received blocks. -/
abbrev bR : Memref sig .tc .vmem S8x512x256 .bf16 := Memref.whole cc0_scratch2

/-! ### The pieces named by an offset -/

theorem inb_slot (d : Fin 8) : ∀ a, (![d.val, 0, 0] : Fin 3 → Nat) a + S1x512x256.size a ≤ S8x512x256.size a := by
  revert d; decide
theorem inb_pair (k : Fin 2) : ∀ a, (![k.val, 0, 0] : Fin 3 → Nat) a + S1x4096x256.size a ≤ S2x4096x256.size a := by
  revert k; decide
theorem inb_sem8 (d : Fin 8) : ∀ a, (![d.val] : Fin 1 → Nat) a + S1.size a ≤ S8.size a := by revert d; decide
theorem inb_sem2 (k : Fin 2) : ∀ a, (![k.val] : Fin 1 → Nat) a + S1.size a ≤ S2.size a := by revert k; decide

/-- Slot `d` of an eight-slot buffer. -/
abbrev slotR (d : Fin 8) : Rect S8x512x256 := Rect.unit (s := S8x512x256) ![d.val, 0, 0] S1x512x256.size (inb_slot d)
/-- Slot `k` of the two-slot buffer. -/
abbrev pairR (k : Fin 2) : Rect S2x4096x256 := Rect.unit (s := S2x4096x256) ![k.val, 0, 0] S1x4096x256.size (inb_pair k)

theorem words_slot (d : Fin 8) : (slotR d).WholeWords (EltTy.packing .bf16) := by revert d; decide
theorem packed_slot (d : Fin 8) : (slotR d).PackedRows (EltTy.packing .bf16) := by revert d; decide

/-- Slot `d` of the blocks to send, as a transfer names it. -/
abbrev sSlot (d : Fin 8) : Memref sig .tc .vmem S512x256 .bf16 :=
  (bS.slice (slotR d) (fun _ => rfl)).squeeze S512x256 squeezes_S1x512x256_S512x256
/-- Slot `d` of the received blocks, as a transfer names it. -/
abbrev rSlot (d : Fin 8) : Memref sig .tc .vmem S512x256 .bf16 :=
  (bR.slice (slotR d) (fun _ => rfl)).squeeze S512x256 squeezes_S1x512x256_S512x256
/-- Slot `k` of the fetched column blocks, as a transfer names it. -/
abbrev cSlot (k : Fin 2) : Memref sig .tc .vmem S4096x256 .f32 :=
  (bC.slice (pairR k) (fun _ => rfl)).squeeze S4096x256 squeezes_S1x4096x256_S4096x256
/-- The column block of `w` that device `d0` fetches at offset `1 + r`. -/
abbrev wCols (d0 : Dev nD) (r : Fin 8) : Memref sig .tc .hbm S4096x256 .f32 :=
  bW.slice (Rect.unit (s := S4096x2048) (k0_off1 d0 (BitVec.ofNat 32 (1 + r.val))) S4096x256.size (k0_off1_inb d0 r)) (fun _ => rfl)

/-- The semaphore of the fetches into slot `k`. -/
abbrev semC (k : Fin 2) : DmaSem sig :=
  ((cc0_scratch3.slice (Rect.unit (s := S2) ![k.val] S1.size (inb_sem2 k))).squeeze S_ squeezes_S1_S_).sem
/-- The semaphore of the send at offset `d`. -/
abbrev semS (d : Fin 8) : DmaSem sig :=
  ((cc0_scratch4.slice (Rect.unit (s := S8) ![d.val] S1.size (inb_sem8 d))).squeeze S_ squeezes_S1_S_).sem
/-- The semaphore of the arrival at offset `d`. -/
abbrev semR (d : Fin 8) : DmaSem sig :=
  ((cc0_scratch5.slice (Rect.unit (s := S8) ![d.val] S1.size (inb_sem8 d))).squeeze S_ squeezes_S1_S_).sem
/-- The barrier semaphore of the launch's collective. -/
abbrev semB : Sem sig := (SemArray.scalar (sig.barrier 0 rfl) : Sems sig S_).sem

/-- The device a handshake signal of offset `1 + r` goes to, as the kernel computes it. -/
def tellDev (d0 : Dev nD) : Fin 7 → Dev nD
  | 0 => ⟨k0_dev1 d0, k0_dev1_lt d0⟩ | 1 => ⟨k0_dev2 d0, k0_dev2_lt d0⟩ | 2 => ⟨k0_dev3 d0, k0_dev3_lt d0⟩
  | 3 => ⟨k0_dev4 d0, k0_dev4_lt d0⟩ | 4 => ⟨k0_dev5 d0, k0_dev5_lt d0⟩ | 5 => ⟨k0_dev6 d0, k0_dev6_lt d0⟩
  | 6 => ⟨k0_dev7 d0, k0_dev7_lt d0⟩
/-- The device a block of offset `1 + r` goes to, as the kernel computes it. -/
def sendDev (d0 : Dev nD) : Fin 7 → Dev nD
  | 0 => ⟨k0_dev8 d0, k0_dev8_lt d0⟩ | 1 => ⟨k0_dev9 d0, k0_dev9_lt d0⟩ | 2 => ⟨k0_dev10 d0, k0_dev10_lt d0⟩
  | 3 => ⟨k0_dev11 d0, k0_dev11_lt d0⟩ | 4 => ⟨k0_dev12 d0, k0_dev12_lt d0⟩ | 5 => ⟨k0_dev13 d0, k0_dev13_lt d0⟩
  | 6 => ⟨k0_dev14 d0, k0_dev14_lt d0⟩

variable {F : FTy → Type} [FloatOps F]

/-- The kernel's programs. -/
abbrev P (F : FTy → Type) (α : Type) : Type 1 := Prog (TpuEff nD τ sig (Elt F) Λ₀ .tc) α

/-! ### The operations -/

/-- Offset `1 + r` of the seven exchanged, among the eight slots. -/
abbrev up (r : Fin 7) : Fin 8 := r.succ
/-- The slot of the two that holds the column block of offset `1 + r`. -/
abbrev par (r : Fin 8) : Fin 2 := ⟨r.val % 2, Nat.mod_lt _ (by decide)⟩

/-- Tell the device at offset `1 + r` that this one is here. -/
def tell (d0 : Dev nD) (r : Fin 7) : P F PUnit := semSignalWord (tellDev d0 r) semB 1#32

/-- Start fetching the column block of offset `1 + r`. -/
def fetch (d0 : Dev nD) (r : Fin 8) : P F PUnit :=
  Prog.lift (.enqueueDma (wCols d0 r) (.here (cSlot (par r))) (.dma (semC (par r))) (View.wordExact_bits rfl)
    ((View.wordExact_bits rfl).reshape _ _) ⟨Or.inl rfl, trivial⟩)

/-- Wait for that fetch. -/
def fetched (d0 : Dev nD) (r : Fin 8) : P F PUnit :=
  Prog.lift (.waitDma2 (semC (par r)) (wCols d0 r) (cSlot (par r)) (View.wordExact_bits rfl) ((View.wordExact_bits rfl).reshape _ _))

/-- Read the fetched column block of offset `1 + r`. -/
def readCols (r : Fin 8) : P F (Vec F S1x4096x256 .f32) :=
  Prog.lift (.load bC (pairR (par r)).toLoadRect (View.loadsAt_vmem h_S1x4096x256))

/-- Put a computed block into its slot. -/
def put (r : Fin 7) (v : FVec F S1x512x256 .bf16) : P F PUnit := do
  let _ : Vec F S1x512x256 .bf16 ← Prog.lift (.load bS (slotR (up r)).toLoadRect (View.loadsAt_vmem h_S1x512x256))
  Prog.lift (.store bS (slotR (up r)) v Finset.univ
    (View.stores_vmem h_S1x512x256 ((Memref.isWhole_whole _).storeExact_slice rfl _ (packed_slot (up r))) (fun _ => rfl)) (.inl rfl))

/-- Send the block in a slot into the same slot of the device at offset `1 + r`. -/
def send (d0 : Dev nD) (r : Fin 7) : P F PUnit :=
  Prog.lift (.enqueueDma (sSlot (up r)) (.remote (Dev.tc (sendDev d0 r)) (rSlot (up r)) (.dma (semS (up r)))) (.dma (semR (up r)))
    (((Memref.isWhole_whole _).wordExact_slice rfl _ (words_slot (up r))).reshape _ _)
    (((Memref.isWhole_whole _).wordExact_slice rfl _ (words_slot (up r))).reshape _ _) ⟨⟨rfl, Or.inl rfl⟩, trivial⟩)

/-- One offset of the first loop: the next fetch, this one's end, the block computed, put and sent. -/
def step (d0 : Dev nD) (v5 : F .f32) (v45 : FVec F S512x4096 .fp8e5m2) (r : Fin 7) : P F PUnit := do
  fetch d0 (up r)
  fetched d0 r.castSucc
  let v ← readCols r.castSucc
  put r (k0_pay3 v5 v45 v)
  send d0 r

/-- This device's own block, straight into the result. -/
def own (d0 : Dev nD) (v5 : F .f32) (v45 : FVec F S512x4096 .fp8e5m2) : P F PUnit := do
  fetched d0 7
  let v ← readCols 7
  let _ : Vec F S512x256 .f32 ← Prog.lift (.load bO (Rect.unit (s := S4096x256) (k0_off2 d0) S512x256.size (k0_off2_inb d0)).toLoadRect (View.loadsAt_vmem h_S512x256))
  Prog.lift (.store bO (Rect.unit (s := S4096x256) (k0_off2 d0) S512x256.size (k0_off2_inb d0)) (k0_pay12 v5 v45 v) Finset.univ (View.stores_vmem_bits_univ h_S512x256 rfl) (.inl rfl))

/-- One arrival: wait for the block of offset `1 + r`, and put its rows into the result. -/
def arrive (d0 : Dev nD) (r : Fin 7) : P F PUnit := do
  Prog.lift (.waitDma2 (semR (up r)) (sSlot (up r)) (rSlot (up r))
    (((Memref.isWhole_whole _).wordExact_slice rfl _ (words_slot (up r))).reshape _ _)
    (((Memref.isWhole_whole _).wordExact_slice rfl _ (words_slot (up r))).reshape _ _))
  let v : Vec F S1x512x256 .bf16 ← Prog.lift (.load bR (slotR (up r)).toLoadRect (View.loadsAt_vmem h_S1x512x256))
  let _ : Vec F S512x256 .f32 ← Prog.lift (.load bO (Rect.unit (s := S4096x256) (k0_off3 d0 (BitVec.ofNat 32 (1 + r.val))) S512x256.size (k0_off3_inb d0 r)).toLoadRect (View.loadsAt_vmem h_S512x256))
  Prog.lift (.store bO (Rect.unit (s := S4096x256) (k0_off3 d0 (BitVec.ofNat 32 (1 + r.val))) S512x256.size (k0_off3_inb d0 r)) (k0_pay13 v) Finset.univ (View.stores_vmem_bits_univ h_S512x256 rfl) (.inl rfl))

/-- Wait for a send's end. -/
def sent (r : Fin 7) : P F PUnit :=
  Prog.lift (.waitDma2 (semS (up r)) (rSlot (up r)) (sSlot (up r))
    (((Memref.isWhole_whole _).wordExact_slice rfl _ (words_slot (up r))).reshape _ _)
    (((Memref.isWhole_whole _).wordExact_slice rfl _ (words_slot (up r))).reshape _ _))

/-- The operation for each offset of a list, in its order. -/
def each (f : Fin 7 → P F PUnit) : List (Fin 7) → P F PUnit
  | [] => pure ⟨⟩
  | r :: l => f r >>= fun _ => each f l

/-- The seven offsets. -/
abbrev offs : List (Fin 7) := [0, 1, 2, 3, 4, 5, 6]

/-- The body. -/
def body : P F PUnit := do
  let d0 : Dev nD ← Prog.lift .deviceId
  let v3 : Elt F .f32 ← smemLoad bSx (Rect.unit (s := S1) ![0] S1.size inb_S1_S1_0) numel1_S1 rfl
  let v4 : Elt F .f32 ← smemLoad bSw (Rect.unit (s := S1) ![0] S1.size inb_S1_S1_0) numel1_S1 rfl
  each (tell d0) offs
  semWaitWord semB 7#32
  fetch d0 0
  let v43 : Vec F S512x4096 .f32 ← Prog.lift (.load bX (Rect.unit (s := S512x4096) ![0, 0] S512x4096.size inb_S512x4096_S512x4096_0_0).toLoadRect (View.loadsAt_vmem h_S512x4096))
  each (step d0 (k0_pay1 v3 v4) (k0_pay2 v43)) offs
  own d0 (k0_pay1 v3 v4) (k0_pay2 v43)
  each (arrive d0) offs
  each sent offs

set_option maxRecDepth 65536 in
/-- The body run at the launch's one grid point is that sequence. -/
theorem bodyAt_eq : bodyAt0 (F := F) t0_0 = body (F := F) := rfl

end Cert.KernelIdeal.Exchange
-- ==== Proof.Slots.lean ====
/- The slots of the exchange's buffers: which elements each covers, that together they are the whole
   buffer, and what is read back from a slot after a transfer or a store into it. -/
module

public import proofs.«01_k».proof.Proof.Program
public import Idealize.ShloMosaic.Lib.ViewIndex

@[expose] public section

noncomputable section

namespace Cert.KernelIdeal.Exchange

open Idealize.ShloMosaic Idealize.SL.Sem Cert.KernelIdeal.Gen

variable {F : FTy → Type} [FloatOps F]

/-! ### The elements of a slot -/

theorem sSlot_set (d : Fin 8) : (sSlot d).view.set = (slotR d).set :=
  (View.set_reshape _ _).trans (View.set_slice_whole _ _)
theorem rSlot_set (d : Fin 8) : (rSlot d).view.set = (slotR d).set :=
  (View.set_reshape _ _).trans (View.set_slice_whole _ _)
theorem cSlot_set (k : Fin 2) : (cSlot k).view.set = (pairR k).set :=
  (View.set_reshape _ _).trans (View.set_slice_whole _ _)

theorem mem_slot {d : Fin 8} {i : S8x512x256.Idx} : i ∈ (slotR d).set ↔ (i 0).val = d.val := by
  rw [Rect.mem_set_unit]
  constructor
  · intro h
    have h0 := h 0
    simp at h0
    omega
  · intro h a
    have hi := (i a).isLt
    fin_cases a
    · simp; omega
    · simpa using hi
    · simpa using hi

theorem mem_pair {k : Fin 2} {i : S2x4096x256.Idx} : i ∈ (pairR k).set ↔ (i 0).val = k.val := by
  rw [Rect.mem_set_unit]
  constructor
  · intro h
    have h0 := h 0
    simp at h0
    omega
  · intro h a
    have hi := (i a).isLt
    fin_cases a
    · simp; omega
    · simpa using hi
    · simpa using hi

theorem slots_disjoint : ∀ d ∈ (Finset.univ : Finset (Fin 8)), ∀ d' ∈ (Finset.univ : Finset (Fin 8)), d ≠ d' →
    Disjoint (slotR d).set (slotR d').set := fun d _ d' _ h =>
  Finset.disjoint_left.mpr fun i hi hi' => h (Fin.ext ((mem_slot.mp hi).symm.trans (mem_slot.mp hi')))
theorem pairs_disjoint : ∀ d ∈ (Finset.univ : Finset (Fin 2)), ∀ d' ∈ (Finset.univ : Finset (Fin 2)), d ≠ d' →
    Disjoint (pairR d).set (pairR d').set := fun d _ d' _ h =>
  Finset.disjoint_left.mpr fun i hi hi' => h (Fin.ext ((mem_pair.mp hi).symm.trans (mem_pair.mp hi')))

theorem slots_cover : (Finset.univ : Finset (Fin 8)).biUnion (fun d => (slotR d).set) = Finset.univ :=
  Finset.eq_univ_iff_forall.mpr fun i => Finset.mem_biUnion.mpr ⟨⟨(i 0).val, (i 0).isLt⟩, Finset.mem_univ _, mem_slot.mpr rfl⟩
theorem pairs_cover : (Finset.univ : Finset (Fin 2)).biUnion (fun d => (pairR d).set) = Finset.univ :=
  Finset.eq_univ_iff_forall.mpr fun i => Finset.mem_biUnion.mpr ⟨⟨(i 0).val, (i 0).isLt⟩, Finset.mem_univ _, mem_pair.mpr rfl⟩

/-! ### What a slot holds -/

/-- A block after it lands in a slot is the block that was in the sender's slot. -/
theorem read_landed (d : Fin 8) (fd : bR.view.ty.Contents (Elt F)) (fs : bS.view.ty.Contents (Elt F)) :
    bR.view.readAt (Elt F) (slotR d).toLoadRect ((rSlot d).view.write (Elt F) fd ((sSlot d).view.read (Elt F) fs) Finset.univ)
      = bS.view.readAt (Elt F) (slotR d).toLoadRect fs := by
  funext y
  obtain ⟨x, rfl⟩ := (Shape.reshapeEquiv (s := S1x512x256) (s' := S512x256) squeezes_S1x512x256_S512x256.numel_eq).surjective y
  exact View.read_write_reshape (v := (bR.slice (slotR d) (fun _ => rfl)).view) _ fd _ x

/-- The column block of `w` at offset `1 + r`, laid as a slot of fetched blocks is. -/
def colsOf (d0 : Dev nD) (r : Fin 8) (w : bW.view.ty.Contents (Elt F)) : Vec F S1x4096x256 .f32 := fun y =>
  (wCols d0 r).view.read (Elt F) w ((Shape.reshapeEquiv (s := S1x4096x256) (s' := S4096x256) squeezes_S1x4096x256_S4096x256.numel_eq).symm y)

/-- What is read of a slot after a column block is fetched into it. -/
theorem read_fetched (d0 : Dev nD) (r : Fin 8) (k : Fin 2) (fd : bC.view.ty.Contents (Elt F)) (w : bW.view.ty.Contents (Elt F)) :
    bC.view.readAt (Elt F) (pairR k).toLoadRect ((cSlot k).view.write (Elt F) fd ((wCols d0 r).view.read (Elt F) w) Finset.univ)
      = colsOf d0 r w := by
  funext y
  obtain ⟨x, rfl⟩ := (Shape.reshapeEquiv (s := S1x4096x256) (s' := S4096x256) squeezes_S1x4096x256_S4096x256.numel_eq).surjective y
  unfold colsOf
  rw [Equiv.symm_apply_apply]
  exact View.read_write_reshape (v := (bC.slice (pairR k) (fun _ => rfl)).view) _ fd _ x

/-- What is read of a slot after a block is stored into it. -/
theorem read_put (d : Fin 8) (f : bS.view.ty.Contents (Elt F)) (v : Vec F S1x512x256 .bf16) :
    bS.view.readAt (Elt F) (slotR d).toLoadRect ((bS.access (slotR d)).write (Elt F) f v Finset.univ) = v :=
  View.read_write_univ _ _

/-! ### The elements an access covers -/

theorem access_slotS (d : Fin 8) : (bS.access (slotR d)).set = (slotR d).set := View.set_slice_whole _ _
theorem access_slotR (d : Fin 8) : (bR.access (slotR d)).set = (slotR d).set := View.set_slice_whole _ _
theorem access_pair (k : Fin 2) : (bC.access (pairR k)).set = (pairR k).set := View.set_slice_whole _ _

/-- The elements of `w` a fetch reads. -/
abbrev wSet (d0 : Dev nD) (r : Fin 8) : Finset S4096x2048.Idx := (wCols d0 r).view.set

end Cert.KernelIdeal.Exchange
-- ==== Proof.Protocol.lean ====
/- The exchange's protocol: who signals whom, which cell hands over what, and in which order the cells
   are waited for.

   Every device tells the seven others that it is here, and waits for the seven others to have told it.
   A signal from device `p` to device `c` hands `c` the one slot of `p` that `c` writes: after the wait
   a device holds, at each of the seven others, the slot its block goes to. A transfer's arrival hands
   the receiving device its slot back, holding the sender's block; the transfer's end at the sender
   hands the sender its own slot back. -/
module

public import proofs.«01_k».proof.Proof.Slots
public import Idealize.ShloMosaic.Lib.Pipeline.Launch
public import Idealize.ShloMosaic.Lib.Pipeline.Kit
public import Idealize.ShloMosaic.Lib.Pipeline.BigSepL
public import Idealize.ShloMosaic.Lib.Transfers
public import Idealize.ShloMosaic.Lib.Tactic

@[expose] public section

noncomputable section

namespace Cert.KernelIdeal.Exchange

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

/-- The exchange's rounds: a duty is named by an offset. -/
abbrev UB : Type := URounds (GSem nD τ sig) (Fin 7)
/-- The launch's rounds, the exchange's, and the counters of the fetches. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb (U := UU)

variable (m : (ℓ : Loc nD τ sig) → Buf (Elt F) ℓ) (ρ : Dev nD → PrngReg)

/-- The memory at launch: arbitrary contents, every semaphore at zero, arbitrary generator registers. -/
def s₀ : MemSt nD τ sig (Elt F) := ⟨m, fun _ => 0, ρ⟩

/-! ## Who sends to whom -/

/-- The device at offset `1 + q` from `c`. -/
def dst (c : Dev nD) (q : Fin 7) : Dev nD := ⟨(c.val + q.val + 1) % 8, Nat.mod_lt _ (by decide)⟩

theorem dst_dst (c : Dev nD) (q : Fin 7) : dst (dst c q) q.rev = c := by revert c q; decide
theorem dst_rev (c : Dev nD) (q : Fin 7) : dst (dst c q.rev) q = c := by revert c q; decide
theorem dst_ne (c : Dev nD) (q : Fin 7) : dst c q ≠ c := by revert c q; decide
theorem dst_inj (c : Dev nD) (q q' : Fin 7) : dst c q = dst c q' → q = q' := by revert c q q'; decide

theorem tellDev_eq (c : Dev nD) (q : Fin 7) : tellDev c q = dst c q := by
  fin_cases q
  · exact Fin.ext (k0_dev1_eq c)
  · exact Fin.ext (k0_dev2_eq c)
  · exact Fin.ext (k0_dev3_eq c)
  · exact Fin.ext (k0_dev4_eq c)
  · exact Fin.ext (k0_dev5_eq c)
  · exact Fin.ext (k0_dev6_eq c)
  · exact Fin.ext (k0_dev7_eq c)
theorem sendDev_eq (c : Dev nD) (q : Fin 7) : sendDev c q = dst c q := by
  fin_cases q
  · exact Fin.ext (k0_dev8_eq c)
  · exact Fin.ext (k0_dev9_eq c)
  · exact Fin.ext (k0_dev10_eq c)
  · exact Fin.ext (k0_dev11_eq c)
  · exact Fin.ext (k0_dev12_eq c)
  · exact Fin.ext (k0_dev13_eq c)
  · exact Fin.ext (k0_dev14_eq c)

/-! ## Cells -/

abbrev barCell (c : Dev nD) : GSem nD τ sig := ((c : Thread nD τ), .reg semB)
abbrev sendCell (c : Dev nD) (q : Fin 7) : GSem nD τ sig := ((c : Thread nD τ), .dma (semS (up q)))
abbrev recvCell (c : Dev nD) (q : Fin 7) : GSem nD τ sig := ((c : Thread nD τ), .dma (semR (up q)))

/-- A device's cells of the exchange: the barrier's, seven of sends, seven of arrivals. -/
abbrev Cel : Type := Unit ⊕ (Fin 7 ⊕ Fin 7)
def csem : Cel → SemLoc sig
  | .inl _ => .reg semB
  | .inr (.inl q) => .dma (semS (up q))
  | .inr (.inr q) => .dma (semR (up q))
abbrev kcell (ck : Dev nD × Cel) : GSem nD τ sig := ((ck.1 : Thread nD τ), csem ck.2)

/-- Which cell of the exchange a semaphore is, if any. -/
def celOf : SemLoc sig → Option Cel
  | .reg s => if s = semB then some (.inl ()) else none
  | .dma s => if h : 7 ≤ s.val ∧ s.val < 14 then some (.inr (.inl ⟨s.val - 7, by omega⟩))
      else if h : 15 ≤ s.val ∧ s.val < 22 then some (.inr (.inr ⟨s.val - 15, by omega⟩)) else none

theorem celOf_bar : celOf (.reg semB) = some (.inl ()) := by unfold celOf; exact if_pos rfl
theorem celOf_send (q : Fin 7) : celOf (.dma (semS (up q))) = some (.inr (.inl q)) := by revert q; decide
theorem celOf_recv (q : Fin 7) : celOf (.dma (semR (up q))) = some (.inr (.inr q)) := by revert q; decide
theorem celOf_copy (k : Fin 2) : celOf (.dma (semC k)) = none := by revert k; decide
theorem celOf_csem (k : Cel) : celOf (csem k) = some k := by
  rcases k with ⟨⟩ | q | q
  · exact celOf_bar
  · exact celOf_send q
  · exact celOf_recv q

/-- The credit of one block. -/
abbrev N : ℕ := (rSlot 0).view.dmaCredit
theorem N_pos : 0 < N := View.dmaCredit_pos _ (by decide)
/-- The credit of one fetched column block. -/
abbrev NC : ℕ := (cSlot 0).view.dmaCredit
theorem NC_pos : 0 < NC := View.dmaCredit_pos _ (by decide)

/-! ## Contents -/

/-- The staged rows of `x`. -/
def xstg (c : Dev nD) : (cc0_stg0_0 : Ref sig .tc).ty.Contents (Elt F) :=
  (win0_0.blk (0 : Fin 1)).view.read (Elt F) ((s₀ m ρ).mem ((c : Thread nD τ).loc main_arg0))
/-- The staged scale of `x`. -/
def sxstg (c : Dev nD) : (cc0_stg1_0 : Ref sig .tc).ty.Contents (Elt F) :=
  (win0_1.blk (0 : Fin 1)).view.read (Elt F) ((s₀ m ρ).mem ((c : Thread nD τ).loc main_arg2))
/-- The staged scale of `w`. -/
def swstg (c : Dev nD) : (cc0_stg2_0 : Ref sig .tc).ty.Contents (Elt F) :=
  (win0_2.blk (0 : Fin 1)).view.read (Elt F) ((s₀ m ρ).mem ((c : Thread nD τ).loc main_arg3))
/-- The factor `w`. -/
def wArr (c : Dev nD) : (main_arg1 : Ref sig .tc).ty.Contents (Elt F) := m ((c : Thread nD τ).loc main_arg1)

/-- The rectangle of a scale's one element. -/
abbrev r1 : Rect S1 := Rect.unit (s := S1) ![0] S1.size inb_S1_S1_0
/-- The rectangle of all the staged rows. -/
abbrev rX : Rect S512x4096 := Rect.unit (s := S512x4096) ![0, 0] S512x4096.size inb_S512x4096_S512x4096_0_0

/-- The product of the two scales. -/
def scale (c : Dev nD) : F .f32 :=
  k0_pay1 ((bSx.access r1).read (Elt F) (sxstg m ρ c) (Shape.Idx.first (numel1_S1.symm ▸ Nat.one_pos)))
    ((bSw.access r1).read (Elt F) (swstg m ρ c) (Shape.Idx.first (numel1_S1.symm ▸ Nat.one_pos)))
/-- The rows as the product takes them. -/
def rows (c : Dev nD) : FVec F S512x4096 .fp8e5m2 := k0_pay2 (bX.view.readAt (Elt F) rX.toLoadRect (xstg m ρ c))
/-- The block device `c` sends to the device at offset `1 + q`. -/
def sentVal (c : Dev nD) (q : Fin 7) : FVec F S1x512x256 .bf16 :=
  k0_pay3 (scale m ρ c) (rows m ρ c) (colsOf c q.castSucc (wArr m c))
/-- The block device `c` keeps. -/
def ownVal (c : Dev nD) : FVec F S512x256 .f32 := k0_pay12 (scale m ρ c) (rows m ρ c) (colsOf c 7 (wArr m c))

/-! ## The pieces of memory handed over -/

def sPts (c : Dev nD) (q : Fin 7) (f : Buf (Elt F) ((sSlot (up q)).view.loc (c : Thread nD τ))) : sProp 𝕄 :=
  (sSlot (up q)).view.loc (c : Thread nD τ) ↦[(sSlot (up q)).view.set]{fullShare} f
def rPts (c : Dev nD) (q : Fin 7) (f : Buf (Elt F) ((rSlot (up q)).view.loc (c : Thread nD τ))) : sProp 𝕄 :=
  (rSlot (up q)).view.loc (c : Thread nD τ) ↦[(rSlot (up q)).view.set]{fullShare} f

omit [FloatOps F] in
instance sPts_storable (c : Dev nD) (q) (f) : BI.Storable (upEmb : UEmb _ 𝕄) (sPts (F := F) c q f) := by unfold sPts; infer_instance
omit [FloatOps F] in
instance rPts_storable (c : Dev nD) (q) (f) : BI.Storable (upEmb : UEmb _ 𝕄) (rPts (F := F) c q f) := by unfold rPts; infer_instance

/-- What the signal of the device at offset `1 + q` hands `c`: that device's slot `c` writes. -/
def barPay (c : Dev nD) (q : Fin 7) : sProp 𝕄 := iprop(∃ f, rPts (F := F) (dst c q) q f)
/-- What a send's end hands back: the sender's slot. -/
def sendPay (c : Dev nD) (q : Fin 7) : sProp 𝕄 := iprop(∃ f, sPts (F := F) c q f)
/-- What an arrival hands over: the receiving slot holding the sender's block. -/
def recvPay (c : Dev nD) (q : Fin 7) : sProp 𝕄 :=
  iprop(∃ f, ⌜bR.view.readAt (Elt F) (slotR (up q)).toLoadRect f = sentVal m ρ (dst c q.rev) q⌝ ∗ rPts (F := F) c q f)

/-- One round: the barrier's cell has seven duties of one unit, every other cell one duty of a block's credit. -/
def sched : Rounds.Schedule (GSem nD τ sig) (Fin 7) 𝕄 where
  duties g r := if r = 0 ∧ g.1.2 = .tc then (match celOf g.2 with
      | some (.inl _) => Finset.univ | some (.inr _) => {0} | none => ∅) else ∅
  unitless _ := False
  amount g _ _ := match celOf g.2 with | some (.inl _) => 1 | _ => N
  payload g _ d := match celOf g.2 with
    | some (.inl _) => barPay g.1.1 d
    | some (.inr (.inl q)) => sendPay g.1.1 q
    | some (.inr (.inr q)) => recvPay m ρ g.1.1 q
    | none => iprop(emp)
  amount_pos g _ _ _ := by
    split
    · exact Nat.one_pos
    · exact N_pos

instance sched_payload_storable (g : GSem nD τ sig) (r : ℕ) (d : Fin 7) :
    BI.Storable (upEmb : UEmb _ 𝕄) ((sched (F := F) m ρ).payload g r d) := by
  dsimp only [sched]
  unfold barPay sendPay recvPay
  split <;> infer_instance

section Sched
variable (c : Dev nD) (q d : Fin 7)

theorem duties_bar : (sched (F := F) m ρ).duties (barCell c) 0 = Finset.univ := by
  dsimp only [sched]; rw [if_pos ⟨rfl, rfl⟩, celOf_bar]
theorem duties_send : (sched (F := F) m ρ).duties (sendCell c q) 0 = {0} := by
  dsimp only [sched]; rw [if_pos ⟨rfl, rfl⟩, celOf_send]
theorem duties_recv : (sched (F := F) m ρ).duties (recvCell c q) 0 = {0} := by
  dsimp only [sched]; rw [if_pos ⟨rfl, rfl⟩, celOf_recv]
theorem duties_later (g : GSem nD τ sig) : ∀ r, 1 ≤ r → (sched (F := F) m ρ).duties g r = ∅ :=
  fun r hr => by dsimp only [sched]; rw [if_neg fun h => by omega]

theorem amount_bar : (sched (F := F) m ρ).amount (barCell c) 0 d = 1 := by dsimp only [sched]; rw [celOf_bar]
theorem amount_send : (sched (F := F) m ρ).amount (sendCell c q) 0 d = N := by dsimp only [sched]; rw [celOf_send]
theorem amount_recv : (sched (F := F) m ρ).amount (recvCell c q) 0 d = N := by dsimp only [sched]; rw [celOf_recv]

theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c q) 0 = N := by
  unfold Schedule.expect Schedule.amountOf; rw [duties_send, Finset.sum_singleton, amount_send]
theorem expect_recv : (sched (F := F) m ρ).expect (recvCell c q) 0 = N := by
  unfold Schedule.expect Schedule.amountOf; rw [duties_recv, Finset.sum_singleton, amount_recv]

theorem payload_bar : (sched (F := F) m ρ).payload (barCell c) 0 d = barPay c d := by dsimp only [sched]; rw [celOf_bar]
theorem payload_send : (sched (F := F) m ρ).payload (sendCell c q) 0 d = sendPay c q := by dsimp only [sched]; rw [celOf_send]
theorem payload_recv : (sched (F := F) m ρ).payload (recvCell c q) 0 d = recvPay m ρ c q := by dsimp only [sched]; rw [celOf_recv]

/-- The whole of the barrier cell's round: the seven slots. -/
theorem rest_bar : bigSep ((sched (F := F) m ρ).duties (barCell c) 0 \ ∅) (fun d => (sched (F := F) m ρ).payload (barCell c) 0 d)
    = bigSep Finset.univ (barPay (F := F) c) := by
  rw [Finset.sdiff_empty, duties_bar]; exact bigSep_congr fun d _ => payload_bar m ρ c d
theorem rest_send : bigSep ((sched (F := F) m ρ).duties (sendCell c q) 0 \ ∅) (fun d => (sched (F := F) m ρ).payload (sendCell c q) 0 d) = sendPay c q := by
  rw [Finset.sdiff_empty, duties_send, bigSep_singleton, payload_send]
theorem rest_recv : bigSep ((sched (F := F) m ρ).duties (recvCell c q) 0 \ ∅) (fun d => (sched (F := F) m ρ).payload (recvCell c q) 0 d) = recvPay m ρ c q := by
  rw [Finset.sdiff_empty, duties_recv, bigSep_singleton, payload_recv]

end Sched

/-! ## What a core owes; the levels -/

/-- The sum of what is owed for each offset of a list. -/
def owe (f : Fin 7 → CellTallies nD τ sig Unit) : List (Fin 7) → CellTallies nD τ sig Unit
  | [] => 0
  | r :: l => owe f l + f r

theorem owe_pos {f : Fin 7 → CellTallies nD τ sig Unit} {g : GSem nD τ sig} {u : Unit} :
    ∀ {l : List (Fin 7)}, 0 < owe f l g u → ∃ r, 0 < f r g u
  | [], h => absurd h (Nat.lt_irrefl 0)
  | r :: l, h => by
    rw [owe, Pi.add_apply, Finsupp.add_apply] at h
    rcases Nat.eq_zero_or_pos (f r g u) with h0 | h0
    · rw [h0, Nat.add_zero] at h; exact owe_pos h
    · exact ⟨r, h0⟩

/-- A block's credit, owed where it arrives. -/
def oweRecv (c : Dev nD) (r : Fin 7) : CellTallies nD τ sig Unit := tallyAt (recvCell (dst c r) r) () N
/-- A signal's unit, owed to the barrier it goes to. -/
def oweBar (c : Dev nD) (r : Fin 7) : CellTallies nD τ sig Unit := tallyAt (barCell (dst c r)) () 1

def O₀ (c : Dev nD) : CellTallies nD τ sig Unit := owe (oweRecv c) offs + owe (oweBar c) offs

def L (g : GSem nD τ sig) : Finset Unit := if g.1.2 = .tc then {()} else ∅
/-- Barrier cells at 1, arrivals at 2, everything else (staging, fetches, sends) at 0. -/
def lv (g : GSem nD τ sig) (_ : Unit) : ℕ := match celOf g.2 with | some (.inl _) => 1 | some (.inr (.inr _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [celOf_bar]
theorem lv_recv (c : Dev nD) (q : Fin 7) (u : Unit) : lv (recvCell c q) u = 2 := by dsimp only [lv]; rw [celOf_recv]
theorem lv_send (c : Dev nD) (q : Fin 7) (u : Unit) : lv (sendCell c q) u = 0 := by dsimp only [lv]; rw [celOf_send]

theorem lv_copy (c : Dev nD) (k : Fin 2) (u : Unit) : lv ((c : Thread nD τ), .dma (semC k)) u = 0 := by dsimp only [lv]; rw [celOf_copy]

theorem tallyAt_pos {h g : GSem nD τ sig} {n : ℕ} {u : Unit} (hp : 0 < (tallyAt h () n : CellTallies nD τ sig Unit) g u) : g = h := by
  rw [tallyAt_apply] at hp
  by_contra hn
  rw [if_neg (fun h' => hn h'.1)] at hp
  exact Nat.lt_irrefl 0 hp

theorem oweRecv_pos {c : Dev nD} {l : List (Fin 7)} {g : GSem nD τ sig} {u : Unit} (h : 0 < owe (oweRecv c) l g u) :
    ∃ r, g = recvCell (dst c r) r := let ⟨r, hr⟩ := owe_pos h; ⟨r, tallyAt_pos hr⟩

theorem O₀_pos {c : Dev nD} {g : GSem nD τ sig} {u : Unit} (h : 0 < O₀ c g u) :
    (∃ r, g = recvCell (dst c r) r) ∨ ∃ r, g = barCell (dst c r) := by
  rw [O₀, Pi.add_apply, Finsupp.add_apply] at h
  rcases Nat.eq_zero_or_pos (owe (oweRecv c) offs g u) with h0 | h0
  · rw [h0, Nat.zero_add] at h
    obtain ⟨r, hr⟩ := owe_pos h
    exact .inr ⟨r, tallyAt_pos hr⟩
  · exact .inl (oweRecv_pos h0)

omit [FloatOps F] in
/-- A cell at level 0 may be waited for whatever part of the launch's debt is still owed. -/
theorem mayWait_low (c : Dev nD) (sm : SemLoc sig) (hq : lv ((c : Thread nD τ), sm) () = 0) (O : CellTallies nD τ sig Unit)
    (hO : ∀ g u, 0 < O g u → (∃ d r, g = recvCell d r) ∨ ∃ d, g = barCell d) :
    (levAts L lv : sProp 𝕄) ⊢ MayWait (c : Thread nD τ) sm () O :=
  MayOwe.of_cut (L := L) (lev := lv) 0 (fun p hp => by rw [Finset.mem_singleton.mp hp, L_tc]; exact Finset.mem_singleton_self _)
    (fun g u hg => by rcases hO g u hg with ⟨d, r, rfl⟩ | ⟨d, rfl⟩ <;> exact Finset.mem_singleton_self _)
    (fun p hp => by rw [Finset.mem_singleton.mp hp]; exact hq.le)
    (fun g u hg => by
      rcases hO g u hg with ⟨d, r, rfl⟩ | ⟨d, rfl⟩
      · rw [lv_recv]; decide
      · rw [lv_bar]; decide)

omit [FloatOps F] in
/-- At its barrier a device owes arrivals only. -/
theorem mayWait_bar (c : Dev nD) :
    (levAts L lv : sProp 𝕄) ⊢ MayWait (c : Thread nD τ) (.reg semB) () (owe (oweRecv c) offs) :=
  MayOwe.of_cut (L := L) (lev := lv) 1 (fun p hp => by rw [Finset.mem_singleton.mp hp, L_tc]; exact Finset.mem_singleton_self _)
    (fun g u hg => by obtain ⟨r, rfl⟩ := oweRecv_pos hg; exact Finset.mem_singleton_self _)
    (fun p hp => by rw [Finset.mem_singleton.mp hp]; exact (lv_bar c ()).le)
    (fun g u hg => by obtain ⟨r, rfl⟩ := oweRecv_pos hg; rw [lv_recv]; decide)

/-! ## Records every device can read -/

/-- The cells' invariants and that each has reached its round, at the names `K`. -/
def records (K : Dev nD × Cel → ℕ) : sProp 𝕄 :=
  iprop((bigSep Finset.univ fun ck : Dev nD × Cel => cellInv ER (sched m ρ) (K ck) (kcell ck))
    ∗ bigSep Finset.univ fun ck : Dev nD × Cel => reached ER (kcell ck) 0)

instance records_persistent (K : Dev nD × Cel → ℕ) : BI.Persistent (records m ρ K) := by unfold records; infer_instance

theorem invs_elim (K : Dev nD × Cel → ℕ) (ck : Dev nD × Cel) :
    (bigSep Finset.univ fun ck : Dev nD × Cel => (cellInv ER (sched m ρ) (K ck) (kcell ck) : sProp 𝕄)) ⊢ cellInv ER (sched m ρ) (K ck) (kcell ck) :=
  bigSep_elim (Finset.mem_univ ck)
theorem marks_elim (ck : Dev nD × Cel) :
    (bigSep Finset.univ fun ck : Dev nD × Cel => (reached ER (kcell ck) 0 : sProp 𝕄)) ⊢ reached ER (kcell ck) 0 :=
  bigSep_elim (Finset.mem_univ ck)
theorem inv_at (K : Dev nD × Cel → ℕ) (ck : Dev nD × Cel) : records m ρ K ⊢ cellInv ER (sched m ρ) (K ck) (kcell ck) := by
  unfold records
  iintro ⟨H, -⟩
  iapply (invs_elim m ρ K ck)
  iexact H
theorem reached_at (K : Dev nD × Cel → ℕ) (ck : Dev nD × Cel) : records m ρ K ⊢ reached ER (kcell ck) 0 := by
  unfold records
  iintro ⟨-, H⟩
  iapply (marks_elim (F := F) ck)
  iexact H

/-! ## Repeating an operation over the offsets -/

abbrev 𝒱₀ : Variants := Variants.none

/-- The seven offsets' family is the list's. -/
theorem bigSep_offs (Φ : Fin 7 → sProp 𝕄) : bigSep Finset.univ Φ = bigSepL offs Φ :=
  bigSep_univ_eq_bigSepL offs (by decide) (by decide) Φ

theorem offs_drop (n : ℕ) (h : n < 7) : offs.drop n = ⟨n, h⟩ :: offs.drop (n + 1) := by
  match n, h with
  | 0, _ | 1, _ | 2, _ | 3, _ | 4, _ | 5, _ | 6, _ => rfl

theorem owe_drop (f : Fin 7 → CellTallies nD τ sig Unit) (n : ℕ) (h : n < 7) :
    owe f (offs.drop n) = owe f (offs.drop (n + 1)) + f ⟨n, h⟩ := by
  rw [offs_drop n h]; rfl

/-- A state `I` carried from offset to offset, each offset turning its own `Φ` into its own `Ψ`. -/
theorem wp_each (c : Dev nD) (f : Fin 7 → P F PUnit) (I : ℕ → sProp 𝕄) (Φ Ψ : Fin 7 → sProp 𝕄) (R : sProp 𝕄) [BI.Persistent R]
    {α : Type} (k : PUnit → P F α) (Q : α → sProp 𝕄)
    (h : ∀ (n : ℕ) (hn : n < 7) (k : PUnit → P F α),
      iprop(R ∗ I n ∗ Φ ⟨n, hn⟩ ∗ (I (n + 1) ∗ Ψ ⟨n, hn⟩ -∗ wp frame (wpE (defs₀ (F := F)) 𝒱₀ (c : Thread nD τ) none) Set.univ (k ⟨⟩) Q))
        ⊢ wp frame (wpE (defs₀ (F := F)) 𝒱₀ (c : Thread nD τ) none) Set.univ (f ⟨n, hn⟩ >>= k) Q) :
    ∀ j n : ℕ, n + j = 7 →
      iprop(R ∗ I n ∗ bigSepL (offs.drop n) Φ
          ∗ (I 7 ∗ bigSepL (offs.drop n) Ψ -∗ wp frame (wpE (defs₀ (F := F)) 𝒱₀ (c : Thread nD τ) none) Set.univ (k ⟨⟩) Q))
        ⊢ wp frame (wpE (defs₀ (F := F)) 𝒱₀ (c : Thread nD τ) none) Set.univ (each f (offs.drop n) >>= k) Q
  | 0, n, hn => by
    obtain rfl : n = 7 := by omega
    show iprop(R ∗ I 7 ∗ emp ∗ (I 7 ∗ emp -∗ _)) ⊢ wp _ _ _ (k ⟨⟩) Q
    iintro ⟨-, HI, -, Hk⟩
    iapply Hk
    isplitl [HI]; · iexact HI
    iempintro
  | j + 1, n, hn => by
    have hn7 : n < 7 := by omega
    rw [offs_drop n hn7, bigSepL_cons', bigSepL_cons']
    show _ ⊢ wp _ _ _ ((f ⟨n, hn7⟩ >>= fun _ => each f (offs.drop (n + 1))) >>= k) Q
    rw [bind_assoc]
    iintro ⟨#HR, HI, ⟨HΦ, Hl⟩, Hk⟩
    iapply (h n hn7 (fun _ => each f (offs.drop (n + 1)) >>= k))
    isplitr; · iexact HR
    isplitl [HI]; · iexact HI
    isplitl [HΦ]; · iexact HΦ
    iintro ⟨HI, HΨ⟩
    iapply (wp_each c f I Φ Ψ R k Q h j (n + 1) (by omega))
    isplitr; · iexact HR
    isplitl [HI]; · iexact HI
    isplitl [Hl]; · iexact Hl
    iintro ⟨HI, Hl⟩
    iapply Hk
    isplitl [HI]; · iexact HI
    isplitl [HΨ] <;> iassumption

/-- The same over all seven. -/
theorem wp_loop (c : Dev nD) (f : Fin 7 → P F PUnit) (I : ℕ → sProp 𝕄) (Φ Ψ : Fin 7 → sProp 𝕄) (R : sProp 𝕄) [BI.Persistent R]
    {α : Type} (k : PUnit → P F α) (Q : α → sProp 𝕄)
    (h : ∀ (n : ℕ) (hn : n < 7) (k : PUnit → P F α),
      iprop(R ∗ I n ∗ Φ ⟨n, hn⟩ ∗ (I (n + 1) ∗ Ψ ⟨n, hn⟩ -∗ wp frame (wpE (defs₀ (F := F)) 𝒱₀ (c : Thread nD τ) none) Set.univ (k ⟨⟩) Q))
        ⊢ wp frame (wpE (defs₀ (F := F)) 𝒱₀ (c : Thread nD τ) none) Set.univ (f ⟨n, hn⟩ >>= k) Q) :
    iprop(R ∗ I 0 ∗ bigSep Finset.univ Φ
        ∗ (I 7 ∗ bigSep Finset.univ Ψ -∗ wp frame (wpE (defs₀ (F := F)) 𝒱₀ (c : Thread nD τ) none) Set.univ (k ⟨⟩) Q))
      ⊢ wp frame (wpE (defs₀ (F := F)) 𝒱₀ (c : Thread nD τ) none) Set.univ (each f offs >>= k) Q := by
  rw [bigSep_offs, bigSep_offs]
  exact wp_each c f I Φ Ψ R k Q h 7 0 rfl

end Cert.KernelIdeal.Exchange
-- ==== Proof.Steps.lean ====
/- One rule per kind of operation of the body: what it needs of memory and of the exchange's cells, and
   what it leaves. -/
module

public import proofs.«01_k».proof.Proof.Protocol

@[expose] public section

noncomputable section

namespace Cert.KernelIdeal.Exchange

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cel → ℕ) (c : Dev nD)

/-! ## The handshake -/

/-- Before signal `n`: the signals still owed, and every arrival. -/
def tellI (n : ℕ) : sProp 𝕄 := iprop(∃ W, owes (c : Thread nD τ) (owe (oweRecv c) offs + owe (oweBar c) (offs.drop n)) W)
/-- What a signal takes: its duty, and the slot it hands over. -/
def tellPre (r : Fin 7) : sProp 𝕄 := iprop(dutyTok ER (barCell (dst c r)) 0 r.rev ∗ ∃ f, rPts (F := F) c r.rev f)

theorem tell_step {α : Type} (Q : α → sProp 𝕄) (n : ℕ) (hn : n < 7) (k : PUnit → P F α) :
    iprop(records m ρ K ∗ tellI (F := F) c n ∗ tellPre (F := F) c ⟨n, hn⟩
        ∗ (tellI (F := F) c (n + 1) ∗ emp -∗ wp frame (wpE (defs₀ (F := F)) 𝒱₀ (c : Thread nD τ) none) Set.univ (k ⟨⟩) Q))
      ⊢ wp frame (wpE (defs₀ (F := F)) 𝒱₀ (c : Thread nD τ) none) Set.univ (tell c ⟨n, hn⟩ >>= k) Q := by
  unfold tell tellI tellPre
  rw [tellDev_eq, owe_drop (oweBar c) n hn, ← add_assoc]
  simp only [semSignalWord, Prog.lift, Prog.bind_op, Prog.bind_ret]
  iintro ⟨#HR, ⟨%W, HO⟩, ⟨Ht, Hs⟩, Hk⟩
  iapply (Rounds.wp_signal 𝒱₀ ER (sched m ρ) (c : Thread nD τ) none (dst := (dst c ⟨n, hn⟩ : Thread nD τ)) (κ := K (dst c ⟨n, hn⟩, .inl ()))
      (d := Fin.rev ⟨n, hn⟩) (by rw [duties_bar]; exact Finset.mem_univ _) ((amount_bar m ρ (dst c ⟨n, hn⟩) _).trans (by decide)) ()
      (owe (oweRecv c) offs + owe (oweBar c) (offs.drop (n + 1))) rfl)
    $$ [HO Ht Hs]
  · isplitr; · iapply (inv_at m ρ K (dst c ⟨n, hn⟩, .inl ())); iexact HR
    isplitl [HO]; · iexact HO
    isplitl [Ht]; · iexact Ht
    isplitl [Hs]
    · rw [payload_bar]; unfold barPay; rw [dst_dst]; iexact Hs
    · iapply (reached_at m ρ K (dst c ⟨n, hn⟩, .inl ())); iexact HR
  iintro HO
  iapply Hk
  isplitl [HO]
  · iexists W; iexact HO
  · iempintro

/-! ## Fetches of column blocks -/

/-- Slot `k` of the fetched blocks. -/
def cPts (k : Fin 2) (f : Buf (Elt F) ((cSlot k).view.loc (c : Thread nD τ))) : sProp 𝕄 :=
  (cSlot k).view.loc (c : Thread nD τ) ↦[(cSlot k).view.set]{fullShare} f
/-- The elements `S` of `w`, at the share of slot `k`'s fetches. -/
def wPart (k : Fin 2) (S : Finset S4096x2048.Idx) : sProp 𝕄 :=
  (c : Thread nD τ).loc main_arg1 ↦[S]{Transfers.shareTok fullShare 2 k} wArr m c
/-- A slot with no fetch under way. -/
def idle (k : Fin 2) : sProp 𝕄 :=
  iprop((∃ f, cPts (F := F) c k f) ∗ semVal ((c : Thread nD τ), .dma (semC k)) 0 ∗ wPart m c k Finset.univ)
/-- What a fetch delivers: its column block in its slot, and what it read of `w`. -/
def got (r : Fin 8) : sProp 𝕄 :=
  iprop((∃ f, ⌜bC.view.readAt (Elt F) (pairR (par r)).toLoadRect f = colsOf c r (wArr m c)⌝ ∗ cPts (F := F) c (par r) f) ∗ wPart m c (par r) (wSet c r))
/-- The fetch of offset `1 + r` under way. -/
def busy (r : Fin 8) : sProp 𝕄 :=
  iprop(Transfers.Flight EC (c : Thread nD τ) (.dma (semC (par r))) () NC (got m c r) ∗ wPart m c (par r) (Finset.univ \ wSet c r))

theorem fetch_step {α : Type} (Q : α → sProp 𝕄) (r : Fin 8) (k : PUnit → P F α) :
    iprop(idle m c (par r) ∗ (busy m c r -∗ wp frame (wpE (defs₀ (F := F)) 𝒱₀ (c : Thread nD τ) none) Set.univ (k ⟨⟩) Q))
      ⊢ wp frame (wpE (defs₀ (F := F)) 𝒱₀ (c : Thread nD τ) none) Set.univ (fetch c r >>= k) Q := by
  unfold fetch idle cPts
  simp only [Prog.lift, Prog.bind_op, Prog.bind_ret]
  iintro ⟨⟨⟨%f, Hc⟩, Hv, Hw⟩, Hk⟩
  ihave Hw' := (show wPart m c (par r) Finset.univ ⊢ iprop(wPart m c (par r) (wSet c r) ∗ wPart m c (par r) (Finset.univ \ wSet c r)) from
    (pointsTo_split_subset (Finset.subset_univ _)).1) $$ Hw
  icases Hw' with ⟨Hw, Hrest⟩
  iapply (Transfers.wp_dmaLocal EC 𝒱₀ (c : Thread nD τ) none (src := wCols c r) (dst := cSlot (par r)) (q := Transfers.shareTok fullShare 2 (par r))
    (fs := wArr m c) (fd := f) () NC rfl NC_pos (Finset.Subset.refl _)) $$ [Hc Hv Hw]
  · isplitl [Hw]; · unfold wPart; iexact Hw
    isplitl [Hc]; · iexact Hc
    iexact Hv
  iintro Hf
  iapply Hk
  unfold busy
  isplitl [Hf]
  · iapply (Transfers.Flight_mono EC (c : Thread nD τ) ?_) $$ Hf
    unfold got cPts wPart
    iintro ⟨Hc, Hw⟩
    isplitl [Hc]
    · iexists _
      isplitr
      · ipureintro; exact read_fetched c r (par r) f (wArr m c)
      · iexact Hc
    · iexact Hw
  · iexact Hrest

theorem fetched_step {α : Type} (Q : α → sProp 𝕄) (r : Fin 8) (k : PUnit → P F α) (O : CellTallies nD τ sig Unit)
    (hO : ∀ g u, 0 < O g u → (∃ d r, g = recvCell d r) ∨ ∃ d, g = barCell d) :
    iprop(levAts L lv ∗ busy m c r ∗ (∃ W, owes (c : Thread nD τ) O W)
        ∗ (((∃ f, ⌜bC.view.readAt (Elt F) (pairR (par r)).toLoadRect f = colsOf c r (wArr m c)⌝ ∗ cPts (F := F) c (par r) f)
            ∗ semVal ((c : Thread nD τ), .dma (semC (par r))) 0 ∗ wPart m c (par r) Finset.univ ∗ (∃ W, owes (c : Thread nD τ) O W))
          -∗ wp frame (wpE (defs₀ (F := F)) 𝒱₀ (c : Thread nD τ) none) Set.univ (k ⟨⟩) Q))
      ⊢ wp frame (wpE (defs₀ (F := F)) 𝒱₀ (c : Thread nD τ) none) Set.univ (fetched c r >>= k) Q := by
  unfold fetched busy
  simp only [Prog.lift, Prog.bind_op, Prog.bind_ret]
  iintro ⟨#Hlev, ⟨Hf, Hrest⟩, ⟨%W, HO⟩, Hk⟩
  iapply (Transfers.wp_waitLocalO EC 𝒱₀ (c : Thread nD τ) none (srcw := wCols c r) (dstw := cSlot (par r)) () (N := NC) rfl (O := O) (W := W)) $$ [Hf HO]
  · isplitl [Hf]; · iexact Hf
    isplitl [HO]; · iexact HO
    iapply (mayWait_low (F := F) c (.dma (semC (par r))) (lv_copy c (par r) ()) O hO); iexact Hlev
  unfold got
  iintro ⟨⟨Hc, Hw⟩, Hv, HO⟩
  iapply Hk
  isplitl [Hc]; · iexact Hc
  isplitl [Hv]; · iexact Hv
  isplitl [Hw Hrest]
  · iapply (show iprop(wPart m c (par r) (wSet c r) ∗ wPart m c (par r) (Finset.univ \ wSet c r)) ⊢ wPart m c (par r) Finset.univ from
      (pointsTo_split_subset (Finset.subset_univ _)).2)
    isplitl [Hw] <;> iassumption
  · iexists _; iexact HO

theorem readCols_step {α : Type} (Q : α → sProp 𝕄) (r : Fin 8) (k : Vec F S1x4096x256 .f32 → P F α) (f) :
    iprop(cPts (F := F) c (par r) f ∗ (cPts (F := F) c (par r) f -∗ wp frame (wpE (defs₀ (F := F)) 𝒱₀ (c : Thread nD τ) none) Set.univ (k (bC.view.readAt (Elt F) (pairR (par r)).toLoadRect f)) Q))
      ⊢ wp frame (wpE (defs₀ (F := F)) 𝒱₀ (c : Thread nD τ) none) Set.univ (readCols r >>= k) Q := by
  unfold readCols cPts
  simp only [Prog.lift, Prog.bind_op, Prog.bind_ret]
  iintro ⟨Hc, Hk⟩
  iapply (wp_load_rect 𝒱₀ (c : Thread nD τ) none Set.univ (m := bC) (r := pairR (par r)) (by rw [cSlot_set, access_pair])) $$ Hc
  iintro Hc
  iapply Hk; iexact Hc

/-! ## Blocks put and sent -/

theorem put_step {α : Type} (Q : α → sProp 𝕄) (r : Fin 7) (v : FVec F S1x512x256 .bf16) (k : PUnit → P F α) :
    iprop((∃ f, sPts (F := F) c r f)
        ∗ ((∃ f, ⌜bS.view.readAt (Elt F) (slotR (up r)).toLoadRect f = v⌝ ∗ sPts (F := F) c r f)
            -∗ wp frame (wpE (defs₀ (F := F)) 𝒱₀ (c : Thread nD τ) none) Set.univ (k ⟨⟩) Q))
      ⊢ wp frame (wpE (defs₀ (F := F)) 𝒱₀ (c : Thread nD τ) none) Set.univ (put r v >>= k) Q := by
  unfold put sPts
  simp only [Prog.lift, Prog.bind_op, Prog.bind_ret]
  iintro ⟨⟨%f, Hs⟩, Hk⟩
  iapply (wp_load_rect 𝒱₀ (c : Thread nD τ) none Set.univ (m := bS) (r := slotR (up r)) (by rw [sSlot_set, access_slotS])) $$ Hs
  iintro Hs
  iapply (wp_store 𝒱₀ (c : Thread nD τ) none Set.univ (m := bS) (r := slotR (up r)) (Mk := Finset.univ) (by rw [View.setOn_univ, sSlot_set, access_slotS])) $$ Hs
  iintro Hs
  iapply Hk
  iexists _
  isplitr
  · ipureintro; exact read_put (up r) f v
  · iexact Hs

/-- The transfer's rule at the exchange's cells, the receiving device named by `d`. -/
theorem wp_send_block (r : Fin 7) (d : Dev nD) (hd : d = dst c r)
    {hsc : (rSlot (up r) : Memref sig (Dev.tc d : Thread nD τ).2.kind .vmem S512x256 .bf16).view.ref.isScScratch = false}
    {hsrc : (sSlot (up r)).view.WordExact} {hdst : (rSlot (up r)).view.WordExact}
    {hsem : DmaTarget.Typed .vmem (.dma (semR (up r))) (.remote (Dev.tc d : Thread nD τ) (rSlot (up r)) (.dma (semS (up r))) hsc)}
    {α : Type} {Q : α → sProp 𝕄} {k : PUnit → P F α} (fs) (hfs : bS.view.readAt (Elt F) (slotR (up r)).toLoadRect fs = sentVal m ρ c r) (fd)
    (O : CellTallies nD τ sig Unit) (W : Waits sig Unit) :
    iprop(cellInv ER (sched m ρ) (K (c, .inr (.inl r))) (sendCell c r) ∗ cellInv ER (sched m ρ) (K (dst c r, .inr (.inr r))) (recvCell (dst c r) r)
        ∗ sPts (F := F) c r fs ∗ rPts (F := F) (dst c r) r fd
        ∗ owes (c : Thread nD τ) (O + oweRecv c r) W
        ∗ dutyTok ER (sendCell c r) 0 0 ∗ reached ER (sendCell c r) 0
        ∗ dutyTok ER (recvCell (dst c r) r) 0 0 ∗ reached ER (recvCell (dst c r) r) 0)
      ⊢ iprop(((cred (tallyAt (sendCell c r) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot (up r)) (.remote (Dev.tc d : Thread nD τ) (rSlot (up r)) (.dma (semS (up r))) hsc) (.dma (semR (up r))) hsrc hdst hsem) k) Q) := by
  subst hd
  unfold sPts rPts
  exact Rounds.wp_send_pointsTo 𝒱₀ ER (sched m ρ) (c : Thread nD τ) none (κ₁ := K (c, .inr (.inl r))) (κ₂ := K (dst c r, .inr (.inr r)))
    (r₁ := 0) (r₂ := 0) (d₁ := 0) (d₂ := 0) (fd := fd)
    (by rw [duties_send]; exact Finset.mem_singleton_self _) (by rw [duties_recv]; exact Finset.mem_singleton_self _)
    () () N rfl (amount_send m ρ c r 0) (amount_recv m ρ (dst c r) r 0) O rfl (W := W)
    (by rw [payload_send]; unfold sendPay sPts; iintro H; iexists fs; iexact H)
    (by
      rw [payload_recv]; unfold recvPay rPts
      iintro H
      iexists _
      isplitr
      · ipureintro; rw [dst_dst]; exact (read_landed (up r) fd fs).trans hfs
      · iexact H)

theorem send_step {α : Type} (Q : α → sProp 𝕄) (n : ℕ) (hn : n < 7) (k : PUnit → P F α) :
    iprop(records m ρ K
        ∗ (∃ f, ⌜bS.view.readAt (Elt F) (slotR (up ⟨n, hn⟩)).toLoadRect f = sentVal m ρ c ⟨n, hn⟩⌝ ∗ sPts (F := F) c ⟨n, hn⟩ f)
        ∗ barPay (F := F) c ⟨n, hn⟩ ∗ dutyTok ER (sendCell c ⟨n, hn⟩) 0 0 ∗ dutyTok ER (recvCell (dst c ⟨n, hn⟩) ⟨n, hn⟩) 0 0
        ∗ (∃ W, owes (c : Thread nD τ) (owe (oweRecv c) (offs.drop n)) W)
        ∗ ((cred (tallyAt (sendCell c ⟨n, hn⟩) () N) ∗ (∃ W, owes (c : Thread nD τ) (owe (oweRecv c) (offs.drop (n + 1))) W))
            -∗ wp frame (wpE (defs₀ (F := F)) 𝒱₀ (c : Thread nD τ) none) Set.univ (k ⟨⟩) Q))
      ⊢ wp frame (wpE (defs₀ (F := F)) 𝒱₀ (c : Thread nD τ) none) Set.univ (send c ⟨n, hn⟩ >>= k) Q := by
  unfold send barPay
  rw [owe_drop (oweRecv c) n hn]
  simp only [Prog.lift, Prog.bind_op, Prog.bind_ret]
  iintro ⟨#HR, ⟨%fs, %hfs, Hs⟩, ⟨%fd, Hd⟩, HtS, HtR, ⟨%W, HO⟩, Hk⟩
  iapply (wp_send_block m ρ K c ⟨n, hn⟩ _ (sendDev_eq c ⟨n, hn⟩) fs hfs fd (owe (oweRecv c) (offs.drop (n + 1))) W) $$ [Hs Hd HO HtS HtR]
  · isplitr; · iapply (inv_at m ρ K (c, .inr (.inl ⟨n, hn⟩))); iexact HR
    isplitr; · iapply (inv_at m ρ K (dst c ⟨n, hn⟩, .inr (.inr ⟨n, hn⟩))); iexact HR
    isplitl [Hs]; · iexact Hs
    isplitl [Hd]; · iexact Hd
    isplitl [HO]; · iexact HO
    isplitl [HtS]; · iexact HtS
    isplitr; · iapply (reached_at m ρ K (c, .inr (.inl ⟨n, hn⟩))); iexact HR
    isplitl [HtR]; · iexact HtR
    iapply (reached_at m ρ K (dst c ⟨n, hn⟩, .inr (.inr ⟨n, hn⟩))); iexact HR
  iintro ⟨Hc, HO⟩
  iapply Hk
  isplitl [Hc]; · iexact Hc
  iexists W; iexact HO

end Cert.KernelIdeal.Exchange
-- ==== Proof.Result.lean ====
/- What the result's buffer holds: eight row blocks, the device's own and the seven received, each put
   where its device's rows of `x` go. -/
module

public import proofs.«01_k».proof.Proof.Protocol

@[expose] public section

noncomputable section

namespace Cert.KernelIdeal.Exchange

open Cert.KernelIdeal.Gen
open Idealize.ShloMosaic Idealize.SL.Sem

variable {F : FTy → Type} [FloatOps F]
variable (m : (ℓ : Loc nD τ sig) → Buf (Elt F) ℓ) (ρ : Dev nD → PrngReg)

/-- How far device `c` is after device `b`, less one, around the eight: 7 when they are the same. -/
def gap (b c : Dev nD) : ℕ := (c.val + 7 - b.val) % 8

/-- The block of rows `b` of device `c`'s result: its own, or the one device `b` sent. -/
def blockOf (c b : Dev nD) : FVec F S512x256 .f32 :=
  if h : gap b c < 7 then k0_pay13 (sentVal m ρ b ⟨gap b c, h⟩) else ownVal m ρ c

theorem blockOf_own (c : Dev nD) : blockOf m ρ c c = ownVal m ρ c := by
  unfold blockOf; exact dif_neg (by revert c; decide)

theorem gap_src (c : Dev nD) (r : Fin 7) : gap (dst c r.rev) c = r.val := by revert c r; decide

theorem blockOf_src (c : Dev nD) (r : Fin 7) : blockOf m ρ c (dst c r.rev) = k0_pay13 (sentVal m ρ (dst c r.rev) r) := by
  have h : gap (dst c r.rev) c < 7 := by rw [gap_src]; exact r.isLt
  unfold blockOf
  rw [dif_pos h, show (⟨gap (dst c r.rev) c, h⟩ : Fin 7) = r from Fin.ext (gap_src c r)]

/-- The row block an element of the result is in. -/
def blkIx (i : S4096x256.Idx) : Dev nD := ⟨(i 0).val / 512, by have h : (i 0).val < 4096 := (i 0).isLt; show _ < 8; omega⟩
/-- Its place in that block. -/
def inBlk (i : S4096x256.Idx) : S512x256.Idx := fun a => match a with
  | ⟨0, _⟩ => ⟨(i 0).val % 512, Nat.mod_lt _ (by decide)⟩
  | ⟨1, _⟩ => ⟨(i 1).val, (i 1).isLt⟩

/-- Device `c`'s result. -/
def outAt (c : Dev nD) : (cc0_stg3_0 : Ref sig .tc).ty.Contents (Elt F) := fun i => blockOf m ρ c (blkIx i) (inBlk i)

/-- Writing the rows of block `b` changes those rows only. -/
theorem write_rows (b : Dev nD) (off : Fin 2 → ℕ) (hoff : off = ![512 * b.val, 0]) (inb : ∀ a, off a + S512x256.size a ≤ S4096x256.size a)
    (f : (cc0_stg3_0 : Ref sig .tc).ty.Contents (Elt F)) (w : Vec F S512x256 .f32) (i : S4096x256.Idx) :
    (bO.access (Rect.unit (s := S4096x256) off S512x256.size inb)).write (Elt F) f w Finset.univ i
      = if blkIx i = b then w (inBlk i) else f i := by
  subst hoff
  by_cases h : blkIx i = b
  · rw [if_pos h]
    have hi : (bO.access (Rect.unit (s := S4096x256) ![512 * b.val, 0] S512x256.size inb)).emb (inBlk i) = i := by
      funext a
      apply Fin.ext
      have hb : (i 0).val / 512 = b.val := congrArg Fin.val h
      match a with
      | ⟨0, _⟩ => show 512 * b.val + 1 * ((i 0).val % 512) = (i 0).val; omega
      | ⟨1, _⟩ => show 0 + 1 * (i 1).val = (i 1).val; omega
    have := View.write_emb_of_mem (v := bO.access (Rect.unit (s := S4096x256) ![512 * b.val, 0] S512x256.size inb)) f w (Finset.mem_univ (inBlk i))
    rw [hi] at this
    exact this
  · rw [if_neg h]
    refine View.write_of_not_mem _ _ _ fun hm => h ?_
    rw [View.setOn_univ, show (bO.access (Rect.unit (s := S4096x256) ![512 * b.val, 0] S512x256.size inb)).set = _ from View.set_slice_whole _ _] at hm
    have h0 := Rect.mem_set_unit.mp hm 0
    simp at h0
    refine Fin.ext ?_
    show (i 0).val / 512 = b.val
    omega

/-- The own block and the first `n` received are in place. -/
def Done (c : Dev nD) (n : ℕ) (f : (cc0_stg3_0 : Ref sig .tc).ty.Contents (Elt F)) : Prop :=
  ∀ i, (blkIx i = c ∨ ∃ r : Fin 7, r.val < n ∧ blkIx i = dst c r.rev) → f i = outAt m ρ c i

theorem done_own (c : Dev nD) (f : (cc0_stg3_0 : Ref sig .tc).ty.Contents (Elt F)) :
    Done m ρ c 0 ((bO.access (Rect.unit (s := S4096x256) (k0_off2 c) S512x256.size (k0_off2_inb c))).write (Elt F) f (ownVal m ρ c) Finset.univ) := by
  rintro i (h | ⟨r, hr, -⟩)
  · rw [write_rows c _ (k0_off2_eq c), if_pos h, outAt, h, blockOf_own]
  · exact absurd hr (Nat.not_lt_zero _)

theorem src_val (c : Dev nD) (r : Fin 7) : ((c.val + 7) - r.val) % 8 = (dst c r.rev).val := by revert c r; decide
theorem src_ne (c : Dev nD) (r : Fin 7) : dst c r.rev ≠ c := dst_ne c r.rev

theorem done_arrive (c : Dev nD) (n : ℕ) (hn : n < 7) (f : (cc0_stg3_0 : Ref sig .tc).ty.Contents (Elt F)) (h : Done m ρ c n f) :
    Done m ρ c (n + 1) ((bO.access (Rect.unit (s := S4096x256) (k0_off3 c (BitVec.ofNat 32 (1 + n))) S512x256.size (k0_off3_inb c ⟨n, hn⟩))).write (Elt F) f
      (k0_pay13 (sentVal m ρ (dst c (Fin.rev ⟨n, hn⟩)) ⟨n, hn⟩)) Finset.univ) := by
  intro i hi
  rw [write_rows (dst c (Fin.rev ⟨n, hn⟩)) _ ((k0_off3_eq c ⟨n, hn⟩).trans (by rw [src_val]))]
  by_cases hb : blkIx i = dst c (Fin.rev ⟨n, hn⟩)
  · rw [if_pos hb, outAt, hb, blockOf_src]
  · rw [if_neg hb]
    refine h i (hi.imp_right ?_)
    rintro ⟨r, hr, hir⟩
    refine ⟨r, lt_of_le_of_ne (Nat.lt_succ_iff.mp hr) fun h' => hb ?_, hir⟩
    rw [hir, show r = ⟨n, hn⟩ from Fin.ext h']

theorem all_blocks (c b : Dev nD) : b = c ∨ ∃ r : Fin 7, b = dst c r.rev := by revert c b; decide

/-- With the own block and all seven in place the buffer holds the result. -/
theorem done_all (c : Dev nD) (f : (cc0_stg3_0 : Ref sig .tc).ty.Contents (Elt F)) (h : Done m ρ c 7 f) : f = outAt m ρ c :=
  funext fun i => h i ((all_blocks c (blkIx i)).imp_right fun ⟨r, hr⟩ => ⟨r, r.isLt, hr⟩)

end Cert.KernelIdeal.Exchange
-- ==== Proof.Phases.lean ====
/- The body's three loops and the device's own block, one offset at a time. -/
module

public import proofs.«01_k».proof.Proof.Steps
public import proofs.«01_k».proof.Proof.Result

@[expose] public section

noncomputable section

namespace Cert.KernelIdeal.Exchange

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cel → ℕ) (c : Dev nD)

/-! ## Computing and sending -/

/-- The fetch under way before offset `n`'s block is computed. -/
def cur (n : ℕ) : Fin 8 := ⟨n % 8, Nat.mod_lt _ (by decide)⟩

theorem cur_cast (n : ℕ) (hn : n < 7) : cur n = (⟨n, hn⟩ : Fin 7).castSucc := Fin.ext (Nat.mod_eq_of_lt (by omega))
theorem cur_up (n : ℕ) (hn : n < 7) : cur (n + 1) = up ⟨n, hn⟩ := Fin.ext (Nat.mod_eq_of_lt (by omega))
theorem par_cur (n : ℕ) : par (cur (n + 1 + 1)) = par (cur n) := Fin.ext (by show (n + 1 + 1) % 8 % 2 = n % 8 % 2; omega)

/-- Before offset `n`'s block: its fetch under way, the other slot free, the sends still owed. -/
def stepI (n : ℕ) : sProp 𝕄 :=
  iprop(busy m c (cur n) ∗ idle m c (par (cur (n + 1))) ∗ ∃ W, owes (c : Thread nD τ) (owe (oweRecv c) (offs.drop n)) W)
/-- What an offset's block takes: its own slot, the slot it goes to, the two duties of its transfer. -/
def stepPre (r : Fin 7) : sProp 𝕄 :=
  iprop((∃ f, sPts (F := F) c r f) ∗ barPay (F := F) c r ∗ dutyTok ER (sendCell c r) 0 0 ∗ dutyTok ER (recvCell (dst c r) r) 0 0)
/-- What it leaves: the credit its slot comes back with. -/
def stepPost (r : Fin 7) : sProp 𝕄 := cred (tallyAt (sendCell c r) () N)

theorem step_step {α : Type} (Q : α → sProp 𝕄) (n : ℕ) (hn : n < 7) (k : PUnit → P F α) :
    iprop((records m ρ K ∗ levAts L lv) ∗ stepI m c n ∗ stepPre (F := F) c ⟨n, hn⟩
        ∗ (stepI m c (n + 1) ∗ stepPost (F := F) c ⟨n, hn⟩ -∗ wp frame (wpE (defs₀ (F := F)) 𝒱₀ (c : Thread nD τ) none) Set.univ (k ⟨⟩) Q))
      ⊢ wp frame (wpE (defs₀ (F := F)) 𝒱₀ (c : Thread nD τ) none) Set.univ (step c (scale m ρ c) (rows m ρ c) ⟨n, hn⟩ >>= k) Q := by
  unfold step stepI stepPre stepPost
  rw [par_cur, cur_cast n hn, cur_up n hn]
  simp only [bind_assoc]
  iintro ⟨⟨#HR, #Hlev⟩, ⟨Hb, Hi, HO⟩, ⟨Hs, Hd, HtS, HtR⟩, Hk⟩
  iapply (fetch_step m c Q (up ⟨n, hn⟩))
  isplitl [Hi]; · iexact Hi
  iintro Hb'
  iapply (fetched_step m c Q (Fin.castSucc ⟨n, hn⟩) _ (owe (oweRecv c) (offs.drop n)) (fun g u hg => by
    obtain ⟨r, rfl⟩ := oweRecv_pos hg; exact .inl ⟨_, _, rfl⟩))
  isplitr; · iexact Hlev
  isplitl [Hb]; · iexact Hb
  isplitl [HO]; · iexact HO
  iintro ⟨⟨%f, %hf, Hc⟩, Hv, Hw, HO⟩
  iapply (readCols_step c Q (Fin.castSucc ⟨n, hn⟩) _ f)
  isplitl [Hc]; · iexact Hc
  iintro Hc
  iapply (put_step c Q ⟨n, hn⟩ _ _)
  isplitl [Hs]; · iexact Hs
  rw [hf]
  iintro Hs
  iapply (send_step m ρ K c Q n hn k)
  isplitr; · iexact HR
  isplitl [Hs]; · unfold sentVal; iexact Hs
  isplitl [Hd]; · iexact Hd
  isplitl [HtS]; · iexact HtS
  isplitl [HtR]; · iexact HtR
  isplitl [HO]; · iexact HO
  iintro ⟨Hcr, HO⟩
  iapply Hk
  isplitl [Hb' Hc Hv Hw HO]
  · isplitl [Hb']; · iexact Hb'
    isplitl [Hc Hv Hw]
    · unfold idle
      isplitl [Hc]; · iexists f; iexact Hc
      isplitl [Hv] <;> iassumption
    · iexact HO
  · iexact Hcr

/-! ## The result -/

/-- The result's buffer. -/
def oPts (f : (cc0_stg3_0 : Ref sig .tc).ty.Contents (Elt F)) : sProp 𝕄 := (c : Thread nD τ).loc cc0_stg3_0 ↦{fullShare} (f : Buf (Elt F) ((c : Thread nD τ).loc cc0_stg3_0))

theorem own_step {α : Type} (Q : α → sProp 𝕄) (k : PUnit → P F α) :
    iprop(levAts L lv ∗ busy m c 7 ∗ (∃ f, oPts (F := F) c f) ∗ (∃ W, owes (c : Thread nD τ) 0 W)
        ∗ ((idle m c (par 7) ∗ (∃ f, ⌜Done m ρ c 0 f⌝ ∗ oPts (F := F) c f) ∗ (∃ W, owes (c : Thread nD τ) 0 W))
            -∗ wp frame (wpE (defs₀ (F := F)) 𝒱₀ (c : Thread nD τ) none) Set.univ (k ⟨⟩) Q))
      ⊢ wp frame (wpE (defs₀ (F := F)) 𝒱₀ (c : Thread nD τ) none) Set.univ (own c (scale m ρ c) (rows m ρ c) >>= k) Q := by
  unfold own oPts
  simp only [bind_assoc]
  iintro ⟨#Hlev, Hb, ⟨%g, Ho⟩, HO, Hk⟩
  iapply (fetched_step m c Q 7 _ 0 (fun g u hg => absurd hg (Nat.lt_irrefl 0)))
  isplitr; · iexact Hlev
  isplitl [Hb]; · iexact Hb
  isplitl [HO]; · iexact HO
  iintro ⟨⟨%f, %hf, Hc⟩, Hv, Hw, HO⟩
  iapply (readCols_step c Q 7 _ f)
  isplitl [Hc]; · iexact Hc
  iintro Hc
  rw [hf]
  simp only [Prog.lift, Prog.bind_op, Prog.bind_ret]
  iapply (wp_load 𝒱₀ (c : Thread nD τ) none Set.univ (m := bO) (Finset.subset_univ _)) $$ Ho; iintro Ho
  iapply (wp_store 𝒱₀ (c : Thread nD τ) none Set.univ (m := bO) (r := Rect.unit (s := S4096x256) (k0_off2 c) S512x256.size (k0_off2_inb c)) (Mk := Finset.univ) (Finset.subset_univ _)) $$ Ho; iintro Ho
  iapply Hk
  isplitl [Hc Hv Hw]
  · unfold idle
    isplitl [Hc]; · iexists f; iexact Hc
    isplitl [Hv] <;> iassumption
  isplitl [Ho]
  · iexists _
    isplitr
    · ipureintro; exact done_own m ρ c g
    · unfold ownVal; iexact Ho
  · iexact HO

/-- Before arrival `n`: the own block and the first `n` received in place. -/
def arrI (n : ℕ) : sProp 𝕄 := iprop((∃ W, owes (c : Thread nD τ) 0 W) ∗ ∃ f, ⌜Done m ρ c n f⌝ ∗ oPts (F := F) c f)
def arrPre (r : Fin 7) : sProp 𝕄 := iprop(cred (tallyAt (recvCell c r) () N) ∗ atPos ER (recvCell c r) 0 ∅ 0)
def arrPost (r : Fin 7) : sProp 𝕄 := iprop((∃ f, rPts (F := F) c r f) ∗ semVal (recvCell c r) 0)

theorem arrive_step {α : Type} (Q : α → sProp 𝕄) (n : ℕ) (hn : n < 7) (k : PUnit → P F α) :
    iprop(records m ρ K ∗ arrI m ρ c n ∗ arrPre (F := F) c ⟨n, hn⟩
        ∗ (arrI m ρ c (n + 1) ∗ arrPost (F := F) c ⟨n, hn⟩ -∗ wp frame (wpE (defs₀ (F := F)) 𝒱₀ (c : Thread nD τ) none) Set.univ (k ⟨⟩) Q))
      ⊢ wp frame (wpE (defs₀ (F := F)) 𝒱₀ (c : Thread nD τ) none) Set.univ (arrive c ⟨n, hn⟩ >>= k) Q := by
  unfold arrive arrI arrPre arrPost oPts
  simp only [Prog.lift, Prog.bind_op, Prog.bind_ret]
  iintro ⟨#HR, ⟨⟨%W, HO⟩, ⟨%g, %hg, Ho⟩⟩, ⟨Hcr, Hat⟩, Hk⟩
  iapply (Rounds.wp_wait_rest_token 𝒱₀ ER (sched m ρ) (c : Thread nD τ) none (κ := K (c, .inr (.inr ⟨n, hn⟩)))
      (wpE_waitDma2_eq 𝒱₀ (c : Thread nD τ) none Set.univ) (Set.mem_univ _) () (O := 0) (W := W) (R := 0) (m := 0) (T := ∅)
      (by rw [Nat.zero_add, expect_recv])) $$ [Hcr HO Hat]
  · isplitr; · iapply (inv_at m ρ K (c, .inr (.inr ⟨n, hn⟩))); iexact HR
    isplitl [Hcr]; · iexact Hcr
    isplitl [HO]; · iexact HO
    isplitr; · rw [MayWait_zero]; iempintro
    iexact Hat
  iintro ⟨HO, Hat, -, Hpay⟩
  ihave Hp := (Entails.of_eq (rest_recv m ρ c ⟨n, hn⟩)) $$ Hpay
  unfold recvPay rPts
  icases Hp with ⟨%f, %hf, Hr⟩
  imod (Rounds.cell_close ER (sched m ρ) (Set.mem_univ (K (c, .inr (.inr ⟨n, hn⟩)))) (fun h => h) (R := 0 + 1) (duties_later m ρ (recvCell c ⟨n, hn⟩))) $$ [Hat] with Hz
  · isplitr; · iapply (inv_at m ρ K (c, .inr (.inr ⟨n, hn⟩))); iexact HR
    iexact Hat
  iapply (wp_load_rect 𝒱₀ (c : Thread nD τ) none Set.univ (m := bR) (r := slotR (up ⟨n, hn⟩)) (by rw [rSlot_set, access_slotR])) $$ Hr; iintro Hr
  iapply (wp_load 𝒱₀ (c : Thread nD τ) none Set.univ (m := bO) (Finset.subset_univ _)) $$ Ho; iintro Ho
  iapply (wp_store 𝒱₀ (c : Thread nD τ) none Set.univ (m := bO) (r := Rect.unit (s := S4096x256) (k0_off3 c (BitVec.ofNat 32 (1 + n))) S512x256.size (k0_off3_inb c ⟨n, hn⟩)) (Mk := Finset.univ) (Finset.subset_univ _)) $$ Ho; iintro Ho
  iapply Hk
  isplitl [HO Ho]
  · isplitl [HO]; · iexists _; iexact HO
    iexists _
    isplitr
    · ipureintro; exact done_arrive m ρ c n hn g hg
    · rw [← hf]; iexact Ho
  isplitl [Hr]; · iexists f; iexact Hr
  iexact Hz

/-! ## The sends' ends -/

def sentI (_ : ℕ) : sProp 𝕄 := iprop(∃ W, owes (c : Thread nD τ) 0 W)
def sentPre (r : Fin 7) : sProp 𝕄 := iprop(cred (tallyAt (sendCell c r) () N) ∗ atPos ER (sendCell c r) 0 ∅ 0)
def sentPost (r : Fin 7) : sProp 𝕄 := iprop((∃ f, sPts (F := F) c r f) ∗ semVal (sendCell c r) 0)

theorem sent_step {α : Type} (Q : α → sProp 𝕄) (n : ℕ) (hn : n < 7) (k : PUnit → P F α) :
    iprop(records m ρ K ∗ sentI (F := F) c n ∗ sentPre (F := F) c ⟨n, hn⟩
        ∗ (sentI (F := F) c (n + 1) ∗ sentPost (F := F) c ⟨n, hn⟩ -∗ wp frame (wpE (defs₀ (F := F)) 𝒱₀ (c : Thread nD τ) none) Set.univ (k ⟨⟩) Q))
      ⊢ wp frame (wpE (defs₀ (F := F)) 𝒱₀ (c : Thread nD τ) none) Set.univ (sent ⟨n, hn⟩ >>= k) Q := by
  unfold sent sentI sentPre sentPost
  simp only [Prog.lift, Prog.bind_op, Prog.bind_ret]
  iintro ⟨#HR, ⟨%W, HO⟩, ⟨Hcr, Hat⟩, Hk⟩
  iapply (Rounds.wp_wait_rest_token 𝒱₀ ER (sched m ρ) (c : Thread nD τ) none (κ := K (c, .inr (.inl ⟨n, hn⟩)))
      (wpE_waitDma2_eq 𝒱₀ (c : Thread nD τ) none Set.univ) (Set.mem_univ _) () (O := 0) (W := W) (R := 0) (m := 0) (T := ∅)
      (by rw [Nat.zero_add, expect_send])) $$ [Hcr HO Hat]
  · isplitr; · iapply (inv_at m ρ K (c, .inr (.inl ⟨n, hn⟩))); iexact HR
    isplitl [Hcr]; · iexact Hcr
    isplitl [HO]; · iexact HO
    isplitr; · rw [MayWait_zero]; iempintro
    iexact Hat
  iintro ⟨HO, Hat, -, Hpay⟩
  ihave Hp := (Entails.of_eq (rest_send m ρ c ⟨n, hn⟩)) $$ Hpay
  imod (Rounds.cell_close ER (sched m ρ) (Set.mem_univ (K (c, .inr (.inl ⟨n, hn⟩)))) (fun h => h) (R := 0 + 1) (duties_later m ρ (sendCell c ⟨n, hn⟩))) $$ [Hat] with Hz
  · isplitr; · iapply (inv_at m ρ K (c, .inr (.inl ⟨n, hn⟩))); iexact HR
    iexact Hat
  iapply Hk
  isplitl [HO]; · iexists _; iexact HO
  isplitl [Hp]; · unfold sendPay; iexact Hp
  iexact Hz

end Cert.KernelIdeal.Exchange
-- ==== Proof.Body.lean ====
/- The body, run from what the launch gives a device to what it hands back. -/
module

public import proofs.«01_k».proof.Proof.Phases
public import Idealize.ShloMosaic.Lib.Exec.Context
public import Idealize.ShloMosaic.Lib.Pipeline.FrameBody

@[expose] public section

noncomputable section

namespace Cert.KernelIdeal.Exchange

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers and their slots -/

/-- A buffer held whole, at some contents, is its slots each held at some contents. -/
theorem whole_slots {ℓ : Loc nD τ sig} {n : ℕ} [NeZero n] (S : Fin n → Finset (Idx ℓ))
    (hd : ∀ d ∈ (Finset.univ : Finset (Fin n)), ∀ d' ∈ (Finset.univ : Finset (Fin n)), d ≠ d' → Disjoint (S d) (S d'))
    (hc : (Finset.univ : Finset (Fin n)).biUnion S = Finset.univ) :
    iprop(∃ f : Buf (Elt F) ℓ, ℓ ↦{fullShare} f) ⊣⊢ (bigSep Finset.univ fun d => iprop(∃ f : Buf (Elt F) ℓ, ℓ ↦[S d]{fullShare} f) : sProp 𝕄) := by
  have hone (f : Buf (Elt F) ℓ) (d : Fin n) : ((ℓ ↦[S d]{fullShare} f) : sProp 𝕄) ⊢ iprop(∃ f : Buf (Elt F) ℓ, ℓ ↦[S d]{fullShare} f) := by
    iintro H; iexists f; iexact H
  constructor
  · iintro ⟨%f, H⟩
    ihave H' := (Entails.of_eq (show ((ℓ ↦{fullShare} f) : sProp 𝕄) = bigSep Finset.univ fun d => ℓ ↦[S d]{fullShare} f by
      rw [← pointsTo_biUnion _ _ hd, hc])) $$ H
    have hm : (bigSep Finset.univ fun d => ((ℓ ↦[S d]{fullShare} f) : sProp 𝕄))
        ⊢ bigSep Finset.univ fun d => (iprop(∃ f : Buf (Elt F) ℓ, ℓ ↦[S d]{fullShare} f) : sProp 𝕄) :=
      BI.bigSep_mono fun d _ => hone f d
    iapply hm
    iexact H'
  · iintro H
    ihave H' := (BI.bigSep_exists_pi Finset.univ (fun (d : Fin n) (f : Buf (Elt F) ℓ) => ((ℓ ↦[S d]{fullShare} f) : sProp 𝕄))) $$ H
    icases H' with ⟨%fs, H⟩
    ihave H' := (pointsTo_biUnion_join Finset.univ S fs (fs 0) hd) $$ H
    icases H' with ⟨%g, -, H⟩
    iexists g
    rw [hc]
    iexact H

/-- The eight slots: the first, and the seven of the exchange. -/
theorem slots_eight (Φ : Fin 8 → sProp 𝕄) : bigSep Finset.univ Φ = iprop(Φ 0 ∗ bigSep Finset.univ fun r : Fin 7 => Φ r.succ) := by
  rw [Fin.univ_succ, Finset.cons_eq_insert, BI.bigSep_insert (by simp), BI.bigSep_map]; rfl

variable (K : Dev nD × Cel → ℕ) (c : Dev nD)

theorem recv_slots :
    iprop(∃ f : Buf (Elt F) ((c : Thread nD τ).loc cc0_scratch2), (c : Thread nD τ).loc cc0_scratch2 ↦{fullShare} f)
      ⊣⊢ iprop((∃ f : Buf (Elt F) ((c : Thread nD τ).loc cc0_scratch2), (c : Thread nD τ).loc cc0_scratch2 ↦[(slotR 0).set]{fullShare} f)
          ∗ bigSep Finset.univ fun r : Fin 7 => (iprop(∃ f, rPts (F := F) c r f) : sProp 𝕄)) := by
  refine (whole_slots (ℓ := (c : Thread nD τ).loc cc0_scratch2) (fun d => (slotR d).set) slots_disjoint slots_cover).trans ?_
  rw [slots_eight, show (fun r : Fin 7 => (iprop(∃ f, rPts (F := F) c r f) : sProp 𝕄)) = _ from funext fun r => by unfold rPts; rw [rSlot_set]]

theorem send_slots :
    iprop(∃ f : Buf (Elt F) ((c : Thread nD τ).loc cc0_scratch1), (c : Thread nD τ).loc cc0_scratch1 ↦{fullShare} f)
      ⊣⊢ iprop((∃ f : Buf (Elt F) ((c : Thread nD τ).loc cc0_scratch1), (c : Thread nD τ).loc cc0_scratch1 ↦[(slotR 0).set]{fullShare} f)
          ∗ bigSep Finset.univ fun r : Fin 7 => (iprop(∃ f, sPts (F := F) c r f) : sProp 𝕄)) := by
  refine (whole_slots (ℓ := (c : Thread nD τ).loc cc0_scratch1) (fun d => (slotR d).set) slots_disjoint slots_cover).trans ?_
  rw [slots_eight, show (fun r : Fin 7 => (iprop(∃ f, sPts (F := F) c r f) : sProp 𝕄)) = _ from funext fun r => by unfold sPts; rw [sSlot_set]]

theorem col_slots :
    iprop(∃ f : Buf (Elt F) ((c : Thread nD τ).loc cc0_scratch0), (c : Thread nD τ).loc cc0_scratch0 ↦{fullShare} f)
      ⊣⊢ (bigSep Finset.univ fun k : Fin 2 => (iprop(∃ f, cPts (F := F) c k f) : sProp 𝕄)) := by
  refine (whole_slots (ℓ := (c : Thread nD τ).loc cc0_scratch0) (fun d => (pairR d).set) pairs_disjoint pairs_cover).trans ?_
  rw [show (fun k : Fin 2 => (iprop(∃ f, cPts (F := F) c k f) : sProp 𝕄)) = _ from funext fun k => by unfold cPts; rw [cSlot_set]]

/-- The factor `w`, held whole. -/
def wPts : sProp 𝕄 := (c : Thread nD τ).loc main_arg1 ↦{fullShare} wArr m c

/-- It is dealt to the two slots' fetches, a part kept back. -/
theorem w_deal : wPts m c ⊣⊢ iprop((((c : Thread nD τ).loc main_arg1 ↦{Transfers.shareDrop fullShare 2} wArr m c) : sProp 𝕄)
    ∗ bigSep Finset.univ fun k : Fin 2 => wPart m c k Finset.univ) := Transfers.pointsTo_toks fullShare 2

/-! ## What a device starts from and ends with -/

/-- The cells no transfer of the exchange uses: the fetches' two, and the first of the sends' and of the arrivals'. -/
def spare : sProp 𝕄 :=
  iprop((bigSep Finset.univ fun k : Fin 2 => semVal ((c : Thread nD τ), .dma (semC k)) 0)
    ∗ semVal ((c : Thread nD τ), .dma (semS 0)) 0 ∗ semVal ((c : Thread nD τ), .dma (semR 0)) 0)

/-- A device's own positions and the duties it pays. -/
def linear : sProp 𝕄 :=
  iprop((atPos ER (barCell c) 0 ∅ 0 ∗ (bigSep Finset.univ fun q : Fin 7 => atPos ER (sendCell c q) 0 ∅ 0)
      ∗ (bigSep Finset.univ fun q : Fin 7 => atPos ER (recvCell c q) 0 ∅ 0))
    ∗ ((bigSep Finset.univ fun r : Fin 7 => dutyTok ER (barCell (dst c r)) 0 r.rev)
      ∗ (bigSep Finset.univ fun r : Fin 7 => dutyTok ER (sendCell c r) 0 0)
      ∗ (bigSep Finset.univ fun r : Fin 7 => dutyTok ER (recvCell (dst c r) r) 0 0))
    ∗ spare (F := F) c)

def start : sProp 𝕄 :=
  iprop((∃ K, records m ρ K ∗ linear (F := F) c) ∗ cred (tallyAt (barCell c) () 7)
    ∗ (bigSep Finset.univ fun q : Fin 7 => cred (tallyAt (recvCell c q) () N)) ∗ levAts L lv ∗ wPts m c)

/-- The scratch buffers, at some contents. -/
def scratch : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))

def Φ₀ : sProp 𝕄 := iprop(start m ρ c ∗ scratch (F := F) c)
/-- At the end: the scratch buffers, every cell at zero, and `w`. -/
def Φ₁ : sProp 𝕄 :=
  iprop(scratch (F := F) c ∗ ((bigSep Finset.univ fun q : Fin 7 => semVal (sendCell c q) 0) ∗ (bigSep Finset.univ fun q : Fin 7 => semVal (recvCell c q) 0)
    ∗ spare (F := F) c) ∗ semVal (barCell c) 0 ∗ wPts m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sxstg m ρ c
    | ⟨2, _⟩ => swstg m ρ c
    | ⟨3, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPost : sProp 𝕄 :=
  iprop(Φ₁ m c ∗ (dats m ρ 0 c).owesAt () t0_0.succ
    ∗ stg c cc0_stg0_0 (xstg m ρ c) ∗ stg c cc0_stg1_0 (sxstg m ρ c) ∗ stg c cc0_stg2_0 (swstg m ρ c) ∗ stg c cc0_stg3_0 (outAt m ρ c))

set_option maxHeartbeats 1600000 in
/-- The body, one rule per operation or loop, in order. -/
theorem sound_body (W : Waits sig Unit) (gO : (cc0_stg3_0 : Ref sig .tc).ty.Contents (Elt F)) (Q : PUnit → sProp 𝕄) :
    iprop(((records m ρ K ∗ linear (F := F) c) ∗ cred (tallyAt (barCell c) () 7)
        ∗ (bigSep Finset.univ fun q : Fin 7 => cred (tallyAt (recvCell c q) () N)) ∗ levAts L lv ∗ wPts m c)
      ∗ scratch (F := F) c ∗ owes (c : Thread nD τ) (O₀ c) W
      ∗ ((c : Thread nD τ).loc cc0_stg0_0 ↦{fullShare} xstg m ρ c) ∗ ((c : Thread nD τ).loc cc0_stg1_0 ↦{fullShare} sxstg m ρ c)
      ∗ ((c : Thread nD τ).loc cc0_stg2_0 ↦{fullShare} swstg m ρ c) ∗ oPts (F := F) c gO
      ∗ ((Φ₁ m c ∗ (∃ W, owes (c : Thread nD τ) 0 W)
          ∗ ((c : Thread nD τ).loc cc0_stg0_0 ↦{fullShare} xstg m ρ c) ∗ ((c : Thread nD τ).loc cc0_stg1_0 ↦{fullShare} sxstg m ρ c)
          ∗ ((c : Thread nD τ).loc cc0_stg2_0 ↦{fullShare} swstg m ρ c) ∗ oPts (F := F) c (outAt m ρ c)) -∗ Q ⟨⟩))
      ⊢ wp frame (wpE (defs₀ (F := F)) 𝒱₀ c none) Set.univ (body (F := F)) Q := by
  unfold body linear spare scratch
  simp only [Prog.lift, Prog.bind_op, Prog.bind_ret, wp_deviceId, smemLoad, smemLoadElt_bind]
  iintro ⟨⟨⟨#HR, ⟨HatB, HatS, HatV⟩, ⟨HtB, HtS, HtV⟩, HzC, HzS0, HzV0⟩, HcB, HcV, #Hlev, Hw⟩, ⟨Hsc0, Hsc1, Hsc2⟩, HO, Hx, Hsx, Hsw, Hout, Hk⟩
  -- the two scales
  iapply (wp_smemLoadElt 𝒱₀ (c : Thread nD τ) none Set.univ (m := bSx) (r := r1) (Finset.subset_univ _)) $$ Hsx; iintro Hsx
  iapply (wp_smemLoadElt 𝒱₀ (c : Thread nD τ) none Set.univ (m := bSw) (r := r1) (Finset.subset_univ _)) $$ Hsw; iintro Hsw
  -- the slots
  ihave Hr := (recv_slots (F := F) c).1 $$ Hsc2
  icases Hr with ⟨Hr0, Hr⟩
  ihave Hs := (send_slots (F := F) c).1 $$ Hsc1
  icases Hs with ⟨Hs0, Hs⟩
  ihave Hc := (col_slots (F := F) c).1 $$ Hsc0
  ihave Hw' := (w_deal m c).1 $$ Hw
  icases Hw' with ⟨Hw0, Hw⟩
  -- the handshake's signals
  iapply (wp_loop c (tell c) (tellI (F := F) c) (tellPre (F := F) c) (fun _ => iprop(emp)) (records m ρ K) _ Q
    (fun n hn k => tell_step m ρ K c Q n hn k))
  isplitr; · iexact HR
  isplitl [HO]; · unfold tellI; iexists W; unfold O₀; iexact HO
  isplitl [HtB Hr]
  · unfold tellPre
    rw [bigSep_sep']
    isplitl [HtB]; · iexact HtB
    iapply (Entails.of_eq (bigSep_univ_equiv (Fin.revPerm (n := 7)) (fun r : Fin 7 => (iprop(∃ f, rPts (F := F) c r f) : sProp 𝕄))))
    iexact Hr
  iintro ⟨HO, -⟩
  unfold tellI
  icases HO with ⟨%W1, HO⟩
  -- its wait
  simp only [semWaitWord, Prog.lift, Prog.bind_op, Prog.bind_ret]
  iapply (Rounds.wp_wait_rest_token 𝒱₀ ER (sched m ρ) (c : Thread nD τ) none (κ := K (c, .inl ()))
      (wpE_semWait_eq 𝒱₀ (c : Thread nD τ) none Set.univ) (Set.mem_univ _) () (O := owe (oweRecv c) offs) (W := W1) (R := 0) (m := 0) (T := ∅)
      (by rw [expect_bar]; decide)) $$ [HcB HO HatB]
  · isplitr; · iapply (inv_at m ρ K (c, .inl ())); iexact HR
    isplitl [HcB]; · iexact HcB
    isplitl [HO]; · rw [show owe (oweBar c) (offs.drop 7) = 0 from rfl, add_zero]; iexact HO
    isplitr; · iapply (mayWait_bar (F := F) c); iexact Hlev
    iexact HatB
  iintro ⟨HO, HatB, -, Hpay⟩
  ihave Hd := (Entails.of_eq (rest_bar m ρ c)) $$ Hpay
  imod (Rounds.cell_close ER (sched m ρ) (Set.mem_univ (K (c, .inl ()))) (fun h => h) (R := 0 + 1) (duties_later m ρ (barCell c))) $$ [HatB] with HzB
  · isplitr; · iapply (inv_at m ρ K (c, .inl ())); iexact HR
    iexact HatB
  -- both slots of the fetches free
  ihave Hidle := (show iprop((bigSep Finset.univ fun k : Fin 2 => (iprop(∃ f, cPts (F := F) c k f) : sProp 𝕄))
      ∗ (bigSep Finset.univ fun k : Fin 2 => semVal ((c : Thread nD τ), .dma (semC k)) 0) ∗ bigSep Finset.univ fun k : Fin 2 => wPart m c k Finset.univ)
      ⊢ iprop(idle m c 0 ∗ idle m c 1) from Entails.of_eq (by rw [← bigSep_sep', ← bigSep_sep', BI.bigSep_fin_two]; rfl)) $$ [Hc HzC Hw]
  · isplitl [Hc]; · iexact Hc
    isplitl [HzC] <;> iassumption
  icases Hidle with ⟨Hi0, Hi1⟩
  -- the first fetch, and the rows
  iapply (fetch_step m c Q 0)
  isplitl [Hi0]; · iexact Hi0
  iintro Hb
  iapply (wp_load 𝒱₀ (c : Thread nD τ) none Set.univ (m := bX) (Finset.subset_univ _)) $$ Hx; iintro Hx
  -- seven blocks computed and sent
  iapply (wp_loop c (step c (scale m ρ c) (rows m ρ c)) (stepI m c) (stepPre (F := F) c) (stepPost (F := F) c) iprop(records m ρ K ∗ levAts L lv) _ Q
    (fun n hn k => step_step m ρ K c Q n hn k))
  isplitr
  · isplitr; · iexact HR
    iexact Hlev
  isplitl [Hb Hi1 HO]
  · unfold stepI
    isplitl [Hb]; · iexact Hb
    isplitl [Hi1]; · iexact Hi1
    iexists _; iexact HO
  isplitl [Hs Hd HtS HtV]
  · unfold stepPre
    rw [bigSep_sep', bigSep_sep', bigSep_sep']
    isplitl [Hs]; · iexact Hs
    isplitl [Hd]; · iexact Hd
    isplitl [HtS] <;> iassumption
  unfold stepI
  iintro ⟨⟨Hb, Hi0, HO⟩, HcS⟩
  -- the own block
  iapply (own_step m ρ c Q)
  isplitr; · iexact Hlev
  isplitl [Hb]; · iexact Hb
  isplitl [Hout]; · iexists gO; iexact Hout
  isplitl [HO]; · iexact HO
  iintro ⟨Hi1, Hout, HO⟩
  -- seven arrivals
  iapply (wp_loop c (arrive c) (arrI m ρ c) (arrPre (F := F) c) (arrPost (F := F) c) (records m ρ K) _ Q
    (fun n hn k => arrive_step m ρ K c Q n hn k))
  isplitr; · iexact HR
  isplitl [HO Hout]
  · unfold arrI
    isplitl [HO] <;> iassumption
  isplitl [HcV HatV]
  · unfold arrPre
    rw [bigSep_sep']
    isplitl [HcV] <;> iassumption
  unfold arrI
  iintro ⟨⟨HO, ⟨%g, %hg, Hout⟩⟩, Hpost⟩
  obtain rfl := done_all m ρ c g hg
  unfold arrPost
  ihave Hp := (Entails.of_eq (bigSep_sep' Finset.univ (fun r : Fin 7 => (iprop(∃ f, rPts (F := F) c r f) : sProp 𝕄)) (fun r => semVal (recvCell c r) 0))) $$ Hpost
  icases Hp with ⟨Hr, HzV⟩
  -- seven sends' ends
  rw [show (each sent offs : P F PUnit) = each sent offs >>= fun _ => pure ⟨⟩ from (bind_pure _).symm]
  iapply (wp_loop c sent (sentI (F := F) c) (sentPre (F := F) c) (sentPost (F := F) c) (records m ρ K) _ Q
    (fun n hn k => sent_step m ρ K c Q n hn k))
  isplitr; · iexact HR
  isplitl [HO]; · unfold sentI; iexact HO
  isplitl [HcS HatS]
  · unfold sentPre stepPost
    rw [bigSep_sep']
    isplitl [HcS] <;> iassumption
  unfold sentI sentPost
  iintro ⟨HO, Hpost⟩
  ihave Hp := (Entails.of_eq (bigSep_sep' Finset.univ (fun r : Fin 7 => (iprop(∃ f, sPts (F := F) c r f) : sProp 𝕄)) (fun r => semVal (sendCell c r) 0))) $$ Hpost
  icases Hp with ⟨Hs, HzS⟩
  -- the buffers whole again
  ihave Hidle := (show iprop(idle m c 0 ∗ idle m c 1) ⊢ iprop((bigSep Finset.univ fun k : Fin 2 => (iprop(∃ f, cPts (F := F) c k f) : sProp 𝕄))
      ∗ (bigSep Finset.univ fun k : Fin 2 => semVal ((c : Thread nD τ), .dma (semC k)) 0) ∗ bigSep Finset.univ fun k : Fin 2 => wPart m c k Finset.univ)
      from Entails.of_eq (by rw [← bigSep_sep', ← bigSep_sep', BI.bigSep_fin_two]; rfl)) $$ [Hi0 Hi1]
  · isplitl [Hi0]; · iexact Hi0
    iexact Hi1
  icases Hidle with ⟨Hc, HzC, Hw⟩
  rw [Prog.pure_eq_ret, wp_ret]; imodintro
  iapply Hk
  isplitl [Hc Hs0 Hs Hr0 Hr HzS HzV HzC HzS0 HzV0 HzB Hw0 Hw]
  · unfold Φ₁ scratch spare
    isplitl [Hc Hs0 Hs Hr0 Hr]
    · isplitl [Hc]; · iapply (col_slots (F := F) c).2; iexact Hc
      isplitl [Hs0 Hs]
      · iapply (send_slots (F := F) c).2
        isplitl [Hs0] <;> iassumption
      · iapply (recv_slots (F := F) c).2
        isplitl [Hr0] <;> iassumption
    isplitl [HzS HzV HzC HzS0 HzV0]
    · isplitl [HzS]; · iexact HzS
      isplitl [HzV]; · iexact HzV
      isplitl [HzC]; · iexact HzC
      isplitl [HzS0] <;> iassumption
    isplitl [HzB]; · iexact HzB
    iapply (w_deal m c).2
    isplitl [Hw0] <;> iassumption
  isplitl [HO]; · iexact HO
  isplitl [Hx]; · iexact Hx
  isplitl [Hsx]; · iexact Hsx
  isplitl [Hsw]; · iexact Hsw
  iexact Hout

set_option maxRecDepth 4000 in
def bodyPre : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

set_option maxRecDepth 4000 in
theorem body_run : bodyPre m ρ c ⊢ wp frame (wpE (defs₀ (F := F)) 𝒱₀ c none) Set.univ (body (F := F)) (fun _ => bodyPost m ρ c) := by
  unfold bodyPre Φ₀ start
  iintro ⟨⟨⟨⟨%K, Hg⟩, Hrest⟩, Hscr⟩, Ho, ⟨%d0, %g0, %hg0, Hx⟩, ⟨%d1, %g1, %hg1, Hsx⟩, ⟨%d2, %g2, %hg2, Hsw⟩, ⟨%d3, %g3, %hg3, Hout⟩⟩
  have hx : g0 = xstg m ρ c := by rw [hg0]; unfold Dat.before; rw [if_pos (fetch0_0 t0_0)]; rfl
  have hsx : g1 = sxstg m ρ c := by rw [hg1]; unfold Dat.before; rw [if_pos (fetch0_1 t0_0)]; rfl
  have hsw : g2 = swstg m ρ c := by rw [hg2]; unfold Dat.before; rw [if_pos (fetch0_2 t0_0)]; rfl
  subst hx hsx hsw
  unfold Dat.owesAt Pipeline.owesWithin
  icases Ho with ⟨%W, %hW, HO⟩
  rw [show (dats m ρ 0 c).owed t0_0.castSucc = O₀ c from rfl]
  iapply (sound_body m ρ K c W g3)
  isplitl [Hg Hrest]
  · isplitl [Hg]; · iexact Hg
    iexact Hrest
  isplitl [Hscr]; · iexact Hscr
  isplitl [HO]; · iexact HO
  isplitl [Hx]; · iexact Hx
  isplitl [Hsx]; · iexact Hsx
  isplitl [Hsw]; · iexact Hsw
  isplitl [Hout]; · unfold oPts; iexact Hout
  iintro ⟨HΦ, ⟨%W', HO⟩, Hx, Hsx, Hsw, Hout⟩
  unfold bodyPost Dat.owesAt Pipeline.owesWithin
  rw [show (dats m ρ 0 c).owed t0_0.succ = 0 from rfl]
  isplitl [HΦ]; · iexact HΦ
  isplitl [HO]
  · iexists W'
    isplitr; · (ipureintro; exact fun _ _ => Or.inl trivial)
    iexact HO
  isplitl [Hx]
  · iexists _; isplitr; · (ipureintro; rfl)
    iexact Hx
  isplitl [Hsx]
  · iexists _; isplitr; · (ipureintro; rfl)
    iexact Hsx
  isplitl [Hsw]
  · iexists _; isplitr; · (ipureintro; rfl)
    iexact Hsw
  iexists _; isplitr; · (ipureintro; rfl)
  unfold oPts; iexact Hout

set_option maxRecDepth 4000 in
/-- What the launch asks of the body on core `c`. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ (bodyAt0 t0_0) (fun _ => bodyPost m ρ c)
  rw [bodyAt_eq]
  exact body_run m ρ c

end Cert.KernelIdeal.Exchange
-- ==== Proof.Launch.lean ====
/- The launch: the exchange's cells allocated, its duties dealt to the devices that pay them, and the whole run. -/
module

public import proofs.«01_k».proof.Proof.Body
public import Idealize.ShloMosaic.Lib.Quiescent
public import Idealize.ShloMosaic.Lib.Pipeline.CollectiveSegs

@[expose] public section

noncomputable section

namespace Cert.KernelIdeal.Exchange

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duties minted -/

/-- The kernel's own cells: two of fetches, eight of sends, eight of arrivals. -/
abbrev osem : Fin 2 ⊕ (Fin 8 ⊕ Fin 8) → SemLoc sig
  | .inl k => .dma (semC k)
  | .inr (.inl d) => .dma (semS d)
  | .inr (.inr d) => .dma (semR d)
theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Cel → GSem nD τ sig) := by
  rintro ⟨c, k⟩ ⟨c', k'⟩ h
  have h1 : c = c' := congrArg (fun g : GSem nD τ sig => g.1.1) h
  have h2 : some k = some k' := by rw [← celOf_csem, ← celOf_csem, show csem k = csem k' from congrArg Prod.snd h]
  rw [h1, Option.some.inj h2]

/-- A device's own duties: its barrier's seven, one per send, one per arrival. -/
abbrev Duty : Type := Fin 7 ⊕ (Fin 7 ⊕ Fin 7)
abbrev tokOf (cj : Dev nD × Duty) : GSem nD τ sig × ℕ × Fin 7 := match cj.2 with
  | .inl q => (barCell cj.1, 0, q)
  | .inr (.inl q) => (sendCell cj.1 q, 0, 0)
  | .inr (.inr q) => (recvCell cj.1 q, 0, 0)
/-- A duty of a device is read off its cell and its name. -/
def dutyOf (x : GSem nD τ sig × ℕ × Fin 7) : Option Duty := match celOf x.1.2 with
  | some (.inl _) => some (.inl x.2.2)
  | some (.inr q) => some (.inr q)
  | none => none
theorem dutyOf_tokOf (c : Dev nD) (j : Duty) : dutyOf (tokOf (c, j)) = some j := by
  rcases j with q | q | q <;> dsimp only [dutyOf, tokOf]
  · rw [celOf_bar]
  · rw [celOf_send]
  · rw [celOf_recv]
theorem tokOf_injective : Function.Injective (tokOf : Dev nD × Duty → GSem nD τ sig × ℕ × Fin 7) := by
  rintro ⟨c, j⟩ ⟨c', j'⟩ h
  have h1 : c = c' := by
    have := congrArg (fun x : GSem nD τ sig × ℕ × Fin 7 => x.1.1.1) h
    rcases j with q | q | q <;> rcases j' with q' | q' | q' <;> exact this
  have h2 : some j = some j' := by rw [← dutyOf_tokOf c, ← dutyOf_tokOf c', h]
  rw [h1, Option.some.inj h2]

def exCells : Finset (GSem nD τ sig) := Finset.univ.map ⟨kcell, kcell_injective⟩
def exToks : Finset (GSem nD τ sig × ℕ × Fin 7) := Finset.univ.map ⟨tokOf, tokOf_injective⟩

def u₀ : UU := (initOf (Pipeline.cells cfgs cellOf_inj) (Pipeline.launchToks cfgs cellOf_inj), (initOf exCells exToks, 1))

/-- The duties of device `c`'s own cells. -/
def toks (c : Dev nD) : sProp 𝕄 :=
  iprop((bigSep Finset.univ fun q : Fin 7 => dutyTok ER (barCell c) 0 q) ∗ (bigSep Finset.univ fun q : Fin 7 => dutyTok ER (sendCell c q) 0 0)
    ∗ bigSep Finset.univ fun q : Fin 7 => dutyTok ER (recvCell c q) 0 0)

/-- What the launch element gives device `c`, -/
def G (c : Dev nD) : sProp 𝕄 :=
  iprop((bigSep Finset.univ fun k : Cel => roundState ER (sched m ρ) (kcell (c, k)) 0)
    ∗ (bigSep Finset.univ fun k : Cel => iprop(atPos ER (kcell (c, k)) 0 ∅ 0 ∗ reached ER (kcell (c, k)) 0)) ∗ toks c)
/-- and what becomes of it once the cells stand. -/
def G' (c : Dev nD) : sProp 𝕄 := iprop(∃ K, records m ρ K ∗ linear c)

theorem fund : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Cel => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [BI.bigSep_univ_sum, BI.bigSep_univ_sum]; rfl
  iintro HX
  imod (Rounds.fund ER (sched m ρ) exCells exToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every device's cells at once -/

omit [FloatOps F] in
theorem cells_split (Φ : Cel → sProp 𝕄) : bigSep Finset.univ Φ
    = iprop(Φ (.inl ()) ∗ (bigSep Finset.univ fun q : Fin 7 => Φ (.inr (.inl q))) ∗ bigSep Finset.univ fun q : Fin 7 => Φ (.inr (.inr q))) := by
  rw [BI.bigSep_univ_sum, BI.bigSep_univ_sum, bigSep_univ_of_subsingleton ()]; rfl

/-- The kernel's own cells at zero are the exchange's sends and arrivals and the spare ones; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 2 => semVal ((c : Thread nD τ), .dma (semC k)) 0)
        ∗ (semVal ((c : Thread nD τ), .dma (semS 0)) 0 ∗ bigSep Finset.univ fun q : Fin 7 => semVal (sendCell c q) 0)
        ∗ semVal ((c : Thread nD τ), .dma (semR 0)) 0 ∗ bigSep Finset.univ fun q : Fin 7 => semVal (recvCell c q) 0) := by
  unfold Pipeline.ownSems0
  rw [BI.bigSep_univ_sum, BI.bigSep_univ_sum, slots_eight (F := F), slots_eight (F := F)]
  rfl
omit [FloatOps F] in
/-- the barrier's is the launch's one unscoped semaphore. -/
theorem unscopedSems0_eq (c : Dev nD) : (unscopedSems0 c : sProp 𝕄) = semVal (barCell c) 0 := by
  unfold unscopedSems0; rw [bigSep_eq_bigSepL_of_eq [SemLoc.reg semB] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ iprop((bigSep Finset.univ fun k : Cel => semVal (kcell (c, k)) 0) ∗ spare (F := F) c) := by
  rw [ownSems0_eq, unscopedSems0_eq, cells_split]
  unfold spare
  iintro ⟨⟨HC, ⟨HS0, HS⟩, HV0, HV⟩, HB⟩
  isplitl [HB HS HV]
  · isplitl [HB]; · iexact HB
    isplitl [HS]; · iexact HS
    iexact HV
  isplitl [HC]; · iexact HC
  isplitl [HS0] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c ∗ spare (F := F) c) := by
  unfold G
  iintro ⟨Hos, Hus, Hst, Hat, Htok⟩
  ihave Hv := (sems0 (F := F) c) $$ [Hos Hus]
  · isplitl [Hos] <;> iassumption
  icases Hv with ⟨Hv, Hsp⟩
  imod (show iprop((bigSep Finset.univ fun k : Cel => semVal (kcell (c, k)) 0) ∗ bigSep Finset.univ fun k : Cel => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Device `c` and offset `r` name, at the other end, device `dst c r` and the offset back. -/
def across : Dev nD × Fin 7 ≃ Dev nD × Fin 7 where
  toFun x := (dst x.1 x.2, x.2.rev)
  invFun x := (dst x.1 x.2, x.2.rev)
  left_inv x := by dsimp only; rw [dst_dst, Fin.rev_rev]
  right_inv x := by dsimp only; rw [dst_dst, Fin.rev_rev]
/-- The same, the offset kept. -/
def along : Dev nD × Fin 7 ≃ Dev nD × Fin 7 where
  toFun x := (dst x.1 x.2, x.2)
  invFun x := (dst x.1 x.2.rev, x.2)
  left_inv x := by dsimp only; rw [dst_dst]
  right_inv x := by dsimp only; rw [dst_rev]

/-- A family over devices and offsets, dealt to the other ends. -/
theorem deal (e : Dev nD × Fin 7 ≃ Dev nD × Fin 7) (Φ : Dev nD → Fin 7 → sProp 𝕄) :
    (bigSep Finset.univ fun c => bigSep Finset.univ fun r => Φ c r)
      = bigSep Finset.univ fun c : Dev nD => bigSep Finset.univ fun r : Fin 7 => Φ (e (c, r)).1 (e (c, r)).2 := by
  rw [← bigSep_univ_prod (fun x : Dev nD × Fin 7 => Φ x.1 x.2), bigSep_univ_equiv e, bigSep_univ_prod]

/-- The duties device `c` pays. -/
def payToks (c : Dev nD) : sProp 𝕄 :=
  iprop((bigSep Finset.univ fun r : Fin 7 => dutyTok ER (barCell (dst c r)) 0 r.rev) ∗ (bigSep Finset.univ fun r : Fin 7 => dutyTok ER (sendCell c r) 0 0)
    ∗ bigSep Finset.univ fun r : Fin 7 => dutyTok ER (recvCell (dst c r) r) 0 0)

theorem toks_dealt : (bigSep Finset.univ fun c : Dev nD => (toks c : sProp 𝕄)) = bigSep Finset.univ fun c : Dev nD => payToks c := by
  unfold toks payToks
  rw [bigSep_sep', bigSep_sep', bigSep_sep', bigSep_sep', deal across (fun c q => dutyTok ER (barCell c) 0 q),
    deal along (fun c q => dutyTok ER (recvCell c q) 0 0)]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c ∗ spare (F := F) c) : sProp 𝕄)
      ⊢ bigSep Finset.univ (G' m ρ) := by
  rw [bigSep_sep', bigSep_sep', bigSep_sep', ← bigSep_univ_prod (fun ck : Dev nD × Cel => iprop(∃ κ : ℕ, cellInv ER (sched m ρ) κ (kcell ck))),
    bigSep_congr (s := Finset.univ) (fun (c : Dev nD) _ => bigSep_sep' Finset.univ (fun k : Cel => (atPos ER (kcell (c, k)) 0 ∅ 0 : sProp 𝕄)) (fun k => reached ER (kcell (c, k)) 0)),
    bigSep_sep', ← bigSep_univ_prod (fun ck : Dev nD × Cel => (reached ER (kcell ck) 0 : sProp 𝕄)), toks_dealt]
  iintro ⟨HI, ⟨Hat, #HR⟩, Htok, Hsp⟩
  ihave HK := (BI.bigSep_exists_pi Finset.univ (fun (ck : Dev nD × Cel) (κ : ℕ) => (cellInv ER (sched m ρ) κ (kcell ck) : sProp 𝕄))) $$ HI
  icases HK with ⟨%K, #HI⟩
  have hG (c : Dev nD) : iprop(records m ρ K ∗ linear (F := F) c) ⊢ G' m ρ c := by
    unfold G'; iintro H; iexists K; iexact H
  iapply (with_persistent (R := records m ρ K) fun c _ => hG c)
  isplitr
  · unfold records; isplitl; · iexact HI
    iexact HR
  · iapply (show iprop((bigSep Finset.univ fun c : Dev nD => bigSep Finset.univ fun k : Cel => atPos ER (kcell (c, k)) 0 ∅ 0)
        ∗ (bigSep Finset.univ fun c : Dev nD => payToks c) ∗ bigSep Finset.univ fun c : Dev nD => spare (F := F) c)
        ⊢ (bigSep Finset.univ (linear (F := F)) : sProp 𝕄) from by
      rw [← bigSep_sep', ← bigSep_sep']
      exact bigSep_mono fun c _ => show _ ⊢ linear (F := F) c from Entails.of_eq (by unfold linear payToks; rw [cells_split]; rfl))
    isplitl [Hat]; · iexact Hat
    isplitl [Htok] <;> iassumption

/-- From every device's semaphores at zero, every device's cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

theorem owe_apply (f : Fin 7 → CellTallies nD τ sig Unit) (g : GSem nD τ sig) (u : Unit) : owe f offs g u = ∑ r, f r g u := by
  have h : ∀ l : List (Fin 7), owe f l g u = (l.map fun r => f r g u).sum := fun l => by
    induction l with
    | nil => rfl
    | cons r l ih => rw [owe, Pi.add_apply, Finsupp.add_apply, ih, List.map_cons, List.sum_cons, Nat.add_comm]
  rw [h, Fin.sum_univ_def]; rfl

theorem owed (d : Dev nD) (g : GSem nD τ sig) :
    O₀ d g () = (∑ r, (tallyAt (recvCell (dst d r) r) () N : CellTallies nD τ sig Unit) g ()) + ∑ r, (tallyAt (barCell (dst d r)) () 1 : CellTallies nD τ sig Unit) g () := by
  unfold O₀
  rw [Pi.add_apply, Finsupp.add_apply, owe_apply, owe_apply]
  rfl

theorem cell_ne {c c' : Dev nD} {k k' : Cel} (h : k ≠ k') : kcell (c, k) ≠ kcell (c', k') := fun e => h (congrArg Prod.snd (kcell_injective e))

theorem tally_zero {g g' : GSem nD τ sig} (n : ℕ) (h : g' ≠ g) : (tallyAt g () n : CellTallies nD τ sig Unit) g' () = 0 := by
  rw [tallyAt_ne_cell h]; rfl
theorem recv_at_bar (d c : Dev nD) (r : Fin 7) : (tallyAt (recvCell (dst d r) r) () N : CellTallies nD τ sig Unit) (barCell c) () = 0 :=
  tally_zero N (cell_ne (k := .inl ()) (k' := .inr (.inr r)) Sum.inl_ne_inr)
theorem bar_at_recv (d c : Dev nD) (r q : Fin 7) : (tallyAt (barCell (dst d r)) () 1 : CellTallies nD τ sig Unit) (recvCell c q) () = 0 :=
  tally_zero 1 (cell_ne (k := .inr (.inr q)) (k' := .inl ()) Sum.inr_ne_inl)
theorem recv_at_recv (d c : Dev nD) {r q : Fin 7} (h : r ≠ q) :
    (tallyAt (recvCell (dst d r) r) () N : CellTallies nD τ sig Unit) (recvCell c q) () = 0 :=
  tally_zero N (cell_ne (k := .inr (.inr q)) (k' := .inr (.inr r)) fun e => h (Sum.inr.inj (Sum.inr.inj e)).symm)

/-- Devices at offset `1 + r`: one. -/
theorem sum_dst (r : Fin 7) (c : Dev nD) (n : ℕ) : (∑ d : Dev nD, if dst d r = c then n else 0) = n := by
  rw [Finset.sum_congr rfl fun d _ => if_congr (show Iff (dst d r = c) (d = dst c r.rev) from
    ⟨fun h => by rw [← h, dst_dst], fun h => by rw [h, dst_rev]⟩) rfl rfl, Finset.sum_ite_eq' Finset.univ (dst c r.rev) fun _ => n, if_pos (Finset.mem_univ _)]

theorem owed_bar (d c : Dev nD) : O₀ d (barCell c) () = ∑ r, if dst d r = c then 1 else 0 := by
  rw [owed, Finset.sum_eq_zero fun r _ => recv_at_bar d c r, Nat.zero_add]
  refine Finset.sum_congr rfl fun r _ => ?_
  rw [tallyAt_apply]
  exact if_congr ⟨fun h => (congrArg Prod.fst (kcell_injective (a₁ := (c, .inl ())) (a₂ := (dst d r, .inl ())) h.1)).symm, fun h => ⟨by rw [h], rfl⟩⟩ rfl rfl

theorem owed_recv (d c : Dev nD) (q : Fin 7) : O₀ d (recvCell c q) () = if dst d q = c then N else 0 := by
  rw [owed, Finset.sum_eq_zero (s := Finset.univ) (f := fun r => (tallyAt (barCell (dst d r)) () 1 : CellTallies nD τ sig Unit) (recvCell c q) ()) fun r _ => bar_at_recv d c r q, Nat.add_zero]
  rw [Finset.sum_eq_single q (fun r _ hr => recv_at_recv d c hr) fun h => absurd (Finset.mem_univ _) h,
    tallyAt_apply]
  exact if_congr ⟨fun h => (congrArg Prod.fst (kcell_injective (a₁ := (c, .inr (.inr q))) (a₂ := (dst d q, .inr (.inr q))) h.1)).symm, fun h => ⟨by rw [h], rfl⟩⟩ rfl rfl

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun r _ => sum_dst r c 1, Finset.sum_const, Finset.card_univ, Fintype.card_fin, smul_eq_mul]

theorem launch_recv (c : Dev nD) (q : Fin 7) :
    tallyOn (recvCell c q) (launchCredit (Pipeline.owing O₀) 0 (recvCell c q)) = (tallyAt (recvCell c q) () N : CellTallies nD τ sig Unit) := by
  unfold tallyAt; refine congrArg _ (Finsupp.ext fun u => ?_); cases u
  rw [Pipeline.launchCredit_owing, Finsupp.single_eq_same, Finset.sum_congr rfl fun d _ => owed_recv d c q, sum_dst]

theorem recv_injective : Function.Injective (fun q : Fin 7 => (SemLoc.dma (semR (up q)) : SemLoc sig)) := fun q q' h => by
  have := congrArg celOf h
  dsimp only at this
  rw [celOf_recv, celOf_recv] at this
  exact Sum.inr.inj (Sum.inr.inj (Option.some.inj this))

theorem creds (c : Dev nD) :
    (Pipeline.launchCred O₀ c : sProp 𝕄) ⊢ iprop(cred (tallyAt (barCell c) () 7) ∗ bigSep Finset.univ fun q : Fin 7 => cred (tallyAt (recvCell c q) () N)) := by
  unfold Pipeline.launchCred
  rw [bigSep_univ_at _ (SemLoc.reg semB), launch_bar]
  refine sep_mono_right ?_
  refine (BI.bigSep_subset (t := Finset.univ.map ⟨_, recv_injective⟩) fun s hs => ?_).trans ?_
  · obtain ⟨q, -, rfl⟩ := Finset.mem_map.mp hs
    exact Finset.mem_erase.mpr ⟨(by intro h; cases h), Finset.mem_univ _⟩
  · rw [bigSep_map]
    exact bigSep_mono fun q _ => Entails.of_eq (congrArg cred (launch_recv c q))

/-! ## The launch's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hw, Hlev, Hcr, -, HG⟩
  ihave Hc := (creds (F := F) c) $$ Hcr
  icases Hc with ⟨H1, HN⟩
  imodintro
  unfold start G' wPts
  isplitl
  · isplitl [HG]; · iexact HG
    isplitl [H1]; · iexact H1
    isplitl [HN]; · iexact HN
    isplitl [Hlev]; · iexact Hlev
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((unscopedSems0 c ∗ wPts m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ scratch spare
  iintro ⟨Hr, ⟨HzS, HzV, HzC, HzS0, HzV0⟩, HzB, Hw⟩
  isplitl [HzB Hw]
  · isplitl [HzB] <;> iassumption
  isplitl [HzS HzV HzC HzS0 HzV0]
  · isplitl [HzC]; · iexact HzC
    isplitl [HzS HzS0]
    · isplitl [HzS0] <;> iassumption
    · isplitl [HzV0] <;> iassumption
  iexact Hr

theorem lv_of_none {g : GSem nD τ sig} (h : celOf g.2 = none) : lv g () = 0 := by dsimp only [lv]; rw [h]

theorem waits (c : Dev nD) : (levAts L lv : sProp 𝕄) ⊢ Pipeline.cellsWaits cfgs (dats m ρ) () 0 c :=
  Pipeline.cellsWaits_intro cfgs (dats m ρ) () 0 c fun w s t =>
    mayWait_low c _ (lv_of_none (by show celOf (.dma (((cfgs 0).win w).sem s)) = none; revert w s; decide)) _ (by
      rcases t with ⟨_ | _, ht⟩
      · exact fun g u hg => (O₀_pos (c := c) hg).imp (fun ⟨r, h⟩ => ⟨_, r, h⟩) fun ⟨r, h⟩ => ⟨_, h⟩
      · exact fun g u hg => absurd hg (Nat.lt_irrefl 0))

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- For any float values, from any memory with every counter at zero: the run ends, the result arrays hold the
    computed contents, the arguments what they held, and every counter is back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (show BI.own ((Emb.inl.trans embR : Emb UB 𝕄) (initOf exCells exToks)) ⊢ (|==> bigSep Finset.univ (G m ρ) : sProp 𝕄) from (Entails.of_eq rfl).trans (fund m ρ)) $$ HX with HG
      imodintro
      isplitl [HP] <;> iassumption)
    (hglob := glob m ρ)
    (hA := fun _ _ => rfl) (hpf := fun _ k => k.elim0)
    (X := start m ρ) (Y := fun c => iprop(unscopedSems0 c ∗ wPts m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold wPts
      iintro ⟨⟨Hu, Hw⟩, -, HSI⟩
      icombine HSI Hw gives %h
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ h⟩
      iexact HSI)
    (hQ := fun _ h hs => ⟨fun c => ⟨(h c).1, (h c).2.2.2⟩, sem_eq_zero hs fun c => (h c).2.2.1⟩)

/-- An input's array holds what it held. -/
theorem finalA_in0 (c : Dev nD) : finalA m ρ c (0 : Fin 4) = m ((c : Thread nD τ).loc main_arg0) := (dats (F := F) m ρ 0 c).arrAt_in (0 : Fin 4) rfl _
theorem finalA_in1 (c : Dev nD) : finalA m ρ c (1 : Fin 4) = m ((c : Thread nD τ).loc main_arg2) := (dats (F := F) m ρ 0 c).arrAt_in (1 : Fin 4) rfl _
theorem finalA_in2 (c : Dev nD) : finalA m ρ c (2 : Fin 4) = m ((c : Thread nD τ).loc main_arg3) := (dats (F := F) m ρ 0 c).arrAt_in (2 : Fin 4) rfl _
theorem read_out (f : (main_v1 : Ref sig .tc).ty.Contents (Elt F)) : (win0_3.blk (0 : Fin 1)).view.read (Elt F) f = f :=
  Memref.read_access_unit_zero (Elt F) main_v1 (off := fun a => win0_3.index (0 : Fin 1) a * main_v1.ty.shape.size a)
    (funext fun a => by fin_cases a <;> decide) (fun a => by fin_cases a <;> decide) f
theorem finalA_out (c : Dev nD) : finalA m ρ c (3 : Fin 4) = outAt m ρ c := by
  unfold finalA
  rw [show cfg0.N = ((0 : Fin 1) : Fin cfg0.N).val + 1 from rfl, (dats m ρ 0 c).arrAt_succ (3 : Fin 4) (0 : Fin 1), if_pos (flush0_3 (0 : Fin 1))]
  exact (read_out _).symm.trans (View.read_write_univ _ _)

/-- What is staged of an input is the input. -/
theorem xstg_eq (c : Dev nD) : xstg m ρ c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _
theorem sxstg_eq (c : Dev nD) : sxstg m ρ c = m ((c : Thread nD τ).loc main_arg2) :=
  Memref.read_access_unit_zero (Elt F) main_arg2 (off := fun a => win0_1.index (0 : Fin 1) a * main_arg2.ty.shape.size a)
    (funext fun a => by fin_cases a <;> decide) (fun a => by fin_cases a <;> decide) _
theorem swstg_eq (c : Dev nD) : swstg m ρ c = m ((c : Thread nD τ).loc main_arg3) :=
  Memref.read_access_unit_zero (Elt F) main_arg3 (off := fun a => win0_2.index (0 : Fin 1) a * main_arg3.ty.shape.size a)
    (funext fun a => by fin_cases a <;> decide) (fun a => by fin_cases a <;> decide) _

end Cert.KernelIdeal.Exchange
-- ==== Proof.Value.lean ====
/- What the devices' results are over the extended reals: the column blocks of the reference's result. -/
module

public import proofs.«01_k».proof.Proof.Launch
public import proofs.«01_k».proof.ReferenceIdeal
public import proofs.«01_k».proof.Proof.Gen.ReferenceIdeal
public import Idealize.ShloMosaic.Lib.Pointwise
public import Idealize.ShloMosaic.Lib.Layout

@[expose] public section

noncomputable section

namespace Cert.KernelIdeal.Exchange

open Cert.KernelIdeal.Gen
open Idealize.ShloMosaic
open Idealize.ShloMosaic.TcCoe

/-- A block: rows times columns, times the scale. -/
theorem block_apply (s : EReal) (X : FVec Ideal S512x4096 .fp8e5m2) (W : Vec Ideal S1x4096x256 .f32) (y : S512x256.Idx) :
    k0_pay12 (F := Ideal) s X W y = (∑ k : Fin 4096, X (ix2 (y 0) k) * W (ix3 0 k (y 1))) * s := by
  unfold k0_pay12
  pointwise

/-- Sent and widened again, the same block. -/
theorem sent_apply (s : EReal) (X : FVec Ideal S512x4096 .fp8e5m2) (W : Vec Ideal S1x4096x256 .f32) :
    k0_pay13 (F := Ideal) (k0_pay3 (F := Ideal) s X W) = k0_pay12 (F := Ideal) s X W := by
  funext y
  unfold k0_pay12 k0_pay13 k0_pay3
  pointwise

theorem rows_apply (f : Vec Ideal S512x4096 .f32) : k0_pay2 (F := Ideal) f = f := by
  funext y
  unfold k0_pay2
  pointwise

/-- The reference's result from its arguments. -/
def refOut (x : FVec Ideal Cert.ReferenceIdeal.S4096x4096 .f32) (w : FVec Ideal Cert.ReferenceIdeal.S4096x2048 .f32) (a b : FVec Ideal Cert.ReferenceIdeal.S1 .f32) :
    FVec Ideal Cert.ReferenceIdeal.S4096x2048 .f32 :=
  mulf (Host.dotGeneral Cert.ReferenceIdeal.dot_S4096x4096_S4096x2048_S4096x2048_1_0_0_1_n_n none x w)
    (broadcastInDim Cert.ReferenceIdeal.S4096x2048 ![0, 1] Cert.ReferenceIdeal.Facts₀.bcast_S1x1_S4096x2048_0_1
      (broadcastInDim Cert.ReferenceIdeal.S1x1 ![1] Cert.ReferenceIdeal.Facts₀.bcast_S1_S1x1_1 (mulf a b)))

/-- The reference at an element. -/
theorem reference_apply (x : FVec Ideal Cert.ReferenceIdeal.S4096x4096 .f32) (w : FVec Ideal Cert.ReferenceIdeal.S4096x2048 .f32) (a b : FVec Ideal Cert.ReferenceIdeal.S1 .f32)
    (i : Cert.ReferenceIdeal.S4096x2048.Idx) :
    refOut x w a b i = (∑ k : Fin 4096, x (ix2 (i 0) k) * w (ix2 k (i 1))) * (a (ix1 0) * b (ix1 0)) := by
  unfold refOut
  pointwise

variable (m : (ℓ : Loc nD τ sig) → Buf (Elt Ideal) ℓ) (ρ : Dev nD → PrngReg)

/-- The rows of `x` at device `c`, its copy of `w`, and the two scales. -/
def xAt (c : Dev nD) : FVec Ideal S512x4096 .f32 := m ((c : Thread nD τ).loc main_arg0)
def wAt (c : Dev nD) : FVec Ideal S4096x2048 .f32 := m ((c : Thread nD τ).loc main_arg1)
def sxAt (c : Dev nD) : FVec Ideal S1 .f32 := m ((c : Thread nD τ).loc main_arg2)
def swAt (c : Dev nD) : FVec Ideal S1 .f32 := m ((c : Thread nD τ).loc main_arg3)

/-- Column `j` of device `c`'s cut of the columns. -/
def colAt (c : Dev nD) (j : Fin 256) : Fin 2048 :=
  ⟨256 * c.val + j.val, by have := j.isLt; have : c.val < 8 := c.isLt; omega⟩

/-- The device whose columns are at offset `1 + r` from device `d0`. -/
def devAt (d0 : Dev nD) (r : Fin 8) : Dev nD := ⟨(d0.val + r.val + 1) % 8, Nat.mod_lt _ (by decide)⟩

theorem cols_apply (d0 : Dev nD) (r : Fin 8) (w : FVec Ideal S4096x2048 .f32) (k : Fin 4096) (j : Fin 256) :
    colsOf (F := Ideal) d0 r w (ix3 0 k j) = w (ix2 k (colAt (devAt d0 r) j)) := by
  unfold colsOf
  have h : (Shape.reshapeEquiv (s := S1x4096x256) (s' := S4096x256) squeezes_S1x4096x256_S4096x256.numel_eq).symm (ix3 0 k j) = ix2 k j := by
    rw [Equiv.symm_apply_eq]
    exact ((shapeCast_dropUnit_apply (α := S1x4096x256.Idx) ![4096, 256] id squeezes_S1x4096x256_S4096x256.numel_eq (ix2 k j)).trans
      (by funext a; match a with | ⟨0, _⟩ => rfl | ⟨1, _⟩ => rfl | ⟨2, _⟩ => rfl)).symm
  rw [h]
  show w _ = w _
  congr 1
  funext a
  apply Fin.ext
  have ho := k0_off1_eq d0 r
  match a with
  | ⟨0, _⟩ =>
    show k0_off1 d0 (BitVec.ofNat 32 (1 + r.val)) 0 + 1 * k.val = k.val
    rw [ho]; simp
  | ⟨1, _⟩ =>
    show k0_off1 d0 (BitVec.ofNat 32 (1 + r.val)) 1 + 1 * j.val = 256 * ((d0.val + r.val + 1) % 8) + j.val
    rw [ho]; simp

theorem scale_apply (c : Dev nD) : scale m ρ c = sxAt m c (ix1 0) * swAt m c (ix1 0) := by
  unfold scale k0_pay1
  rw [sxstg_eq, swstg_eq]
  have h1 (i j : S1.Idx) : i = j := by
    funext a
    match a with
    | ⟨0, _⟩ => exact Subsingleton.elim (α := Fin 1) _ _
  exact congrArg₂ (· * ·) (congrArg (sxAt m c) (h1 _ _)) (congrArg (swAt m c) (h1 _ _))

theorem gap_lt (b c : Dev nD) : gap b c < 8 := Nat.mod_lt _ (by decide)

theorem gap_own : ∀ b c : Dev nD, ¬ gap b c < 7 → b = c ∧ gap b c = 7 := by decide

theorem gap_dev : ∀ b c : Dev nD, devAt b ⟨gap b c, gap_lt b c⟩ = c := by decide

/-- The block of rows `b` of device `c`'s result: device `b`'s rows times `w`'s columns cut `c`, scaled. -/
theorem blockOf_apply (c b : Dev nD) (y : S512x256.Idx) : blockOf m ρ c b y
    = (∑ k : Fin 4096, xAt m b (ix2 (y 0) k) * wAt m b (ix2 k (colAt c (y 1)))) * (sxAt m b (ix1 0) * swAt m b (ix1 0)) := by
  have h : blockOf m ρ c b y = k0_pay12 (F := Ideal) (scale m ρ b) (rows m ρ b) (colsOf b ⟨gap b c, gap_lt b c⟩ (wArr m b)) y := by
    unfold blockOf
    split
    · unfold sentVal; rw [sent_apply]; rfl
    · next hg =>
      obtain ⟨hb, h7⟩ := gap_own b c hg
      subst hb
      have h8 : (⟨gap b b, gap_lt b b⟩ : Fin 8) = 7 := Fin.ext h7
      rw [h8]; rfl
  have hr : rows m ρ b = xAt m b := by
    unfold rows
    rw [rows_apply, xstg_eq]
    exact Memref.readAt_unit_zero (Elt Ideal) _ (by decide) _ _
  have hc (k : Fin 4096) : colsOf (F := Ideal) b ⟨gap b c, gap_lt b c⟩ (wArr m b) (ix3 0 k (y 1)) = wAt m b (ix2 k (colAt c (y 1))) := by
    have := cols_apply b ⟨gap b c, gap_lt b c⟩ (wArr m b) k (y 1)
    rw [gap_dev] at this
    exact this
  rw [h, block_apply, scale_apply, hr]
  simp only [hc]

/-- The kernel's result on device `c` is the reference's cut of columns `c`, when the devices hold `x`'s cuts by rows and the
    same `w` and scales. -/
theorem outAt_eq (x : FVec Ideal Cert.ReferenceIdeal.S4096x4096 .f32) (w : FVec Ideal S4096x2048 .f32) (a b : FVec Ideal S1 .f32)
    (hx : ∀ c, xAt m c = Layout.block ⟨2, ![512, 4096]⟩ ⟨2, ![4096, 4096]⟩ 0 8 c x)
    (hw : ∀ c, wAt m c = w) (ha : ∀ c, sxAt m c = a) (hb : ∀ c, swAt m c = b) (c : Dev nD) :
    outAt m ρ c = Layout.block ⟨2, ![4096, 256]⟩ ⟨2, ![4096, 2048]⟩ 1 8 c (refOut x w a b) := by
  funext i
  have hl : (Layout.block (⟨2, ![4096, 256]⟩ : Shape) ⟨2, ![4096, 2048]⟩ 1 8 c (refOut x w a b)) i = refOut x w a b (ix2 (i 0) (colAt c (i 1))) := by
    rw [Layout.block_apply]
    congr 1
    funext k
    apply Fin.ext
    match k with
    | ⟨0, _⟩ => rfl
    | ⟨1, _⟩ => exact congrArg (· + (i 1).val) (Nat.mul_comm _ _)
  have hr (k : Fin 4096) : xAt m (blkIx i) (ix2 (inBlk i 0) k) = x (ix2 (i 0) k) := by
    rw [hx, Layout.block_apply]
    congr 1
    funext l
    apply Fin.ext
    match l with
    | ⟨0, _⟩ => exact Nat.div_add_mod' (i 0).val 512
    | ⟨1, _⟩ => rfl
  show blockOf m ρ c (blkIx i) (inBlk i) = _
  rw [hl, reference_apply, blockOf_apply, ha, hb]
  simp only [hr, hw]
  rfl

end Cert.KernelIdeal.Exchange
-- ==== Proof.Same.lean ====
/- The kernel as compiled and the kernel over the extended reals are printed from the same text, so their tables of
   bodies are one, and a run of the one is a run of the other. -/
module

public import proofs.«01_k».proof.Proof.Gen.Kernel
public import proofs.«01_k».proof.Proof.Gen.KernelIdeal

@[expose] public section

noncomputable section

namespace Cert.Proof

open Idealize.ShloMosaic

variable {F : FTy → Type} [FloatOps F]

theorem same_body : @Cert.Kernel.cc0_body F _ _ = @Cert.KernelIdeal.cc0_body F _ _ := rfl

theorem same_kernels : @Cert.Kernel.defs₀ F _ _ = @Cert.KernelIdeal.defs₀ F _ _ := by
  unfold Cert.Kernel.defs₀ Cert.KernelIdeal.defs₀
  apply congrArg Defs.onTc
  funext l a
  match l, a with
  | (0 : Fin 1), a => rfl

theorem same_defs : @Cert.Kernel.defs F _ _ = @Cert.KernelIdeal.defs F _ _ :=
  congrArg (Pipeline.defs (Cert.KernelIdeal.pcfgs (F := F))) same_kernels

end Cert.Proof

end
-- ==== Proof.lean ====
/- The five claims: every run ends with the arguments unchanged and every counter at zero, for the kernel as
   compiled, for the kernel over the extended reals and for the reference; and over the extended reals the
   devices' results are the column blocks of the reference's one result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.KernelIdeal Cert.KernelIdeal.Exchange

variable {F : FTy → Type} [FloatOps F]

/-- What a run of the kernel leaves at device `c`: its result, and its arguments unchanged. -/
theorem ends {m : (ℓ : Loc nD τ sig) → Buf (Elt F) ℓ} {ρ : Dev nD → PrngReg} {r} (h : QC m ρ r) (c : Dev nD) :
    r.2.mem ((c.tc : Thread nD τ).loc main_v1) = outAt m ρ c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 3).trans (finalA_out m ρ c), ((h c).1 0).trans (finalA_in0 m ρ c), (h c).2,
    ((h c).1 1).trans (finalA_in1 m ρ c), ((h c).1 2).trans (finalA_in2 m ρ c)⟩

/-- Every run of the kernel ends with the arguments unchanged and every counter at zero. -/
theorem frame_run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (ends h.1 c).2, h.2⟩) (run_main m ρ)

theorem frame_kernel : Cert.quiescent_Kernel := by
  intro m ρ _
  rw [same_defs]
  exact frame_run (F := Bits) m ρ

theorem frame_ideal : Cert.quiescent_KernelIdeal := fun m ρ _ => frame_run (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The devices' results are the column blocks of the reference's result. -/
theorem algebraic : Cert.algebraic_KernelIdeal_ReferenceIdeal := fun m ρ m' ρ' _ hag =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun _ h c =>
        ⟨(ends h.1 c).1.trans (outAt_eq m ρ _ _ _ _ (fun d => (hag d).1) (fun d => (hag d).2.1) (fun d => (hag d).2.2.1) (fun d => (hag d).2.2.2) c),
          (ends h.1 c).2⟩)
      (run_main (F := Ideal) m ρ),
    (θ_run Cert.ReferenceIdeal.defs _ _).mono (fun _ h => ⟨(h 0).1, (h 0).2⟩) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
